-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![2, 4096, 768]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = Layout.block ⟨3, ![2, 512, 768]⟩ ⟨3, ![2, 4096, 768]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x64x64 : Shape := ⟨4, ![2, 512, 64, 64]⟩
abbrev S512x768 : Shape := ⟨2, ![512, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  bcast_S_S768x512 : S_.BroadcastsInDim S768x512 (![] : Fin 0 → Fin S768x512.rank)
  bcast_S_S2x512x64x64 : S_.BroadcastsInDim S2x512x64x64 (![] : Fin 0 → Fin S2x512x64x64.rank)

variable [Facts]

def fn {F : FTy → Type} [FloatOps F] (main_arg0 : FVec F S2x512x768 .bf16) (main_arg1 : FVec F S768x512 .bf16) (main_arg2 : FVec F S2x512x64x64 .bf16) (main_arg3 : FVec F S2x512x64x64 .bf16) (main_arg4 : FVec F S512x768 .bf16) : IVec S2x512x768 1 × IVec S768x512 1 × IVec S2x512x64x64 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_v4 : FVec F S768x512 .f32 := (extf .f32 · bitsLt_bf16_f32) main_arg1
  let main_v5 : FVec F S768x512 .f32 := Host.absf main_v4
  let main_cst_0 : FVec F S_ .f32 := constant S_ .f32 0x7F800000#32
  let main_v6 : FVec F S768x512 .f32 := broadcastInDim S768x512 ![] bcast_S_S768x512 main_cst_0
  let main_v7 : IVec S768x512 1 := cmpf .olt main_v5 main_v6
  let main_v8 : FVec F S2x512x64x64 .f32 := (extf .f32 · bitsLt_bf16_f32) main_arg2
  let main_v9 : FVec F S2x512x64x64 .f32 := Host.absf main_v8
  let main_cst_1 : FVec F S_ .f32 := constant S_ .f32 0x7F800000#32
  let main_v10 : FVec F S2x512x64x64 .f32 := broadcastInDim S2x512x64x64 ![] bcast_S_S2x512x64x64 main_cst_1
  let main_v11 : IVec S2x512x64x64 1 := cmpf .olt main_v9 main_v10
  (main_v3, main_v7, main_v11)
-- ==== Pre_finite_ReferenceIdeal.lean ====
abbrev S2x4096x768 : Shape := ⟨3, ![2, 4096, 768]⟩
abbrev S768x4096 : Shape := ⟨2, ![768, 4096]⟩
abbrev S2x512x64x64 : Shape := ⟨4, ![2, 512, 64, 64]⟩
abbrev S4096x768 : Shape := ⟨2, ![4096, 768]⟩
abbrev S_ : Shape := ⟨0, ![]⟩

class Facts : Prop where
  bitsLt_bf16_f32 : FTy.bits .bf16 < FTy.bits .f32
  bcast_S_S2x4096x768 : S_.BroadcastsInDim S2x4096x768 (![] : Fin 0 → Fin S2x4096x768.rank)
  bcast_S_S768x4096 : S_.BroadcastsInDim S768x4096 (![] : Fin 0 → Fin S768x4096.rank)
  bcast_S_S2x512x64x64 : S_.BroadcastsInDim S2x512x64x64 (![] : Fin 0 → Fin S2x512x64x64.rank)

variable [Facts]

def fn {F : FTy → Type} [FloatOps F] (main_arg0 : FVec F S2x4096x768 .bf16) (main_arg1 : FVec F S768x4096 .bf16) (main_arg2 : FVec F S2x512x64x64 .bf16) (main_arg3 : FVec F S2x512x64x64 .bf16) (main_arg4 : FVec F S4096x768 .bf16) : IVec S2x4096x768 1 × IVec S768x4096 1 × IVec S2x512x64x64 1 :=
  let main_v0 : FVec F S2x4096x768 .f32 := (extf .f32 · bitsLt_bf16_f32) main_arg0
  let main_v1 : FVec F S2x4096x768 .f32 := Host.absf main_v0
  let main_cst : FVec F S_ .f32 := constant S_ .f32 0x7F800000#32
  let main_v2 : FVec F S2x4096x768 .f32 := broadcastInDim S2x4096x768 ![] bcast_S_S2x4096x768 main_cst
  let main_v3 : IVec S2x4096x768 1 := cmpf .olt main_v1 main_v2
  let main_v4 : FVec F S768x4096 .f32 := (extf .f32 · bitsLt_bf16_f32) main_arg1
  let main_v5 : FVec F S768x4096 .f32 := Host.absf main_v4
  let main_cst_0 : FVec F S_ .f32 := constant S_ .f32 0x7F800000#32
  let main_v6 : FVec F S768x4096 .f32 := broadcastInDim S768x4096 ![] bcast_S_S768x4096 main_cst_0
  let main_v7 : IVec S768x4096 1 := cmpf .olt main_v5 main_v6
  let main_v8 : FVec F S2x512x64x64 .f32 := (extf .f32 · bitsLt_bf16_f32) main_arg2
  let main_v9 : FVec F S2x512x64x64 .f32 := Host.absf main_v8
  let main_cst_1 : FVec F S_ .f32 := constant S_ .f32 0x7F800000#32
  let main_v10 : FVec F S2x512x64x64 .f32 := broadcastInDim S2x512x64x64 ![] bcast_S_S2x512x64x64 main_cst_1
  let main_v11 : IVec S2x512x64x64 1 := cmpf .olt main_v9 main_v10
  (main_v3, main_v7, main_v11)
-- ==== Kernel.lean ====
abbrev S2x512x768 : Shape := ⟨3, ![2, 512, 768]⟩
abbrev S768x512 : Shape := ⟨2, ![768, 512]⟩
abbrev S2x512x64x64 : Shape := ⟨4, ![2, 512, 64, 64]⟩
abbrev S512x768 : Shape := ⟨2, ![512, 768]⟩
abbrev S_ : Shape := ⟨0, ![]⟩
abbrev S2x64x512x64 : Shape := ⟨4, ![2, 64, 512, 64]⟩
abbrev S8x768x512 : Shape := ⟨3, ![8, 768, 512]⟩
abbrev S8x512x768 : Shape := ⟨3, ![8, 512, 768]⟩
abbrev S512x512 : Shape := ⟨2, ![512, 512]⟩
abbrev S2x512x512 : Shape := ⟨3, ![2, 512, 512]⟩
abbrev S512x128 : Shape := ⟨2, ![512, 128]⟩
abbrev S2x8 : Shape := ⟨2, ![2, 8]⟩
abbrev S1x768x512 : Shape := ⟨3, ![1, 768, 512]⟩
abbrev S1x512x768 : Shape := ⟨3, ![1, 512, 768]⟩
abbrev S1024x768 : Shape := ⟨2, ![1024, 768]⟩
abbrev S1x1 : Shape := ⟨2, ![1, 1]⟩
abbrev S1024x512 : Shape := ⟨2, ![1024, 512]⟩
abbrev S512x64 : Shape := ⟨2, ![512, 64]⟩
abbrev S1x1x512x64 : Shape := ⟨4, ![1, 1, 512, 64]⟩
abbrev S512x1 : Shape := ⟨2, ![512, 1]⟩
abbrev S1x512x64 : Shape := ⟨3, ![1, 512, 64]⟩
abbrev S1x512x512 : Shape := ⟨3, ![1, 512, 512]⟩

abbrev nBuf : Space → Nat
  | .hbm => 11
  | .vmem => 11
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x64x64, .bf16⟩
  | .hbm, ⟨3, _⟩ => ⟨S2x512x64x64, .bf16⟩
  | .hbm, ⟨4, _⟩ => ⟨S512x768, .bf16⟩
  | .hbm, ⟨5, _⟩ => ⟨S_, .bf16⟩
  | .hbm, ⟨6, _⟩ => ⟨S2x512x768, .bf16⟩
  | .hbm, ⟨7, _⟩ => ⟨S2x512x768, .bf16⟩
  | .hbm, ⟨8, _⟩ => ⟨S2x64x512x64, .bf16⟩
  | .hbm, ⟨9, _⟩ => ⟨S2x64x512x64, .bf16⟩
  | .hbm, ⟨10, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S2x64x512x64, .bf16⟩
  | .local _ .vmem, ⟨3, _⟩ => ⟨S2x64x512x64, .bf16⟩
  | .local _ .vmem, ⟨4, _⟩ => ⟨S512x768, .bf16⟩
  | .local _ .vmem, ⟨5, _⟩ => ⟨S2x512x768, .f32⟩
  | .local _ .vmem, ⟨6, _⟩ => ⟨S8x768x512, .bf16⟩
  | .local _ .vmem, ⟨7, _⟩ => ⟨S8x512x768, .bf16⟩
  | .local _ .vmem, ⟨8, _⟩ => ⟨S512x512, .f32⟩
  | .local _ .vmem, ⟨9, _⟩ => ⟨S2x512x512, .bf16⟩
  | .local _ .vmem, ⟨10, _⟩ => ⟨S512x128, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v94 : Index := Scalar.indexCast v2
  let c0_35 : Index := 0#32
  let c0_36 : Index := 0#32
  ![v94.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v100 : Index := Scalar.indexCast v2
  let c0_39 : Index := 0#32
  let c0_40 : Index := 0#32
  ![v100.toNat, 0, 0]
def k0_off3 (d0 : Dev nD) (c0_i32_44 : BitVec 32) : Fin 2 → Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v107 : BitVec 32 := Scalar.subi v2 c0_i32_44
  let c8_i32_45 : BitVec 32 := 8#32
  let v108 : BitVec 32 := Scalar.addi v107 c8_i32_45
  let c8_i32_46 : BitVec 32 := 8#32
  let v109 : BitVec 32 := Scalar.remsi v108 c8_i32_46
  ![0, v109.toNat]
def k0_off4 (d0 : Dev nD) (c0_i32_44 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v107 : BitVec 32 := Scalar.subi v2 c0_i32_44
  let c8_i32_45 : BitVec 32 := 8#32
  let v108 : BitVec 32 := Scalar.addi v107 c8_i32_45
  let c8_i32_46 : BitVec 32 := 8#32
  let v109 : BitVec 32 := Scalar.remsi v108 c8_i32_46
  let c0_i32_51 : BitVec 32 := 0#32
  let c0_i32_52 : BitVec 32 := 0#32
  ![v109.toNat, 0, 0]
def k0_dev3 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_49 : BitVec 32 := 1#32
  let v110 : BitVec 32 := Scalar.muli v7 c1_i32_49
  let v111 : BitVec 32 := Scalar.addi c0_i32_50 v110
  v111.toNat
def k0_off5 (d0 : Dev nD) (c0_i32_44 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v107 : BitVec 32 := Scalar.subi v2 c0_i32_44
  let c8_i32_45 : BitVec 32 := 8#32
  let v108 : BitVec 32 := Scalar.addi v107 c8_i32_45
  let c8_i32_46 : BitVec 32 := 8#32
  let v109 : BitVec 32 := Scalar.remsi v108 c8_i32_46
  let v120 : Index := Scalar.indexCast v109
  let c0_55 : Index := 0#32
  let c0_56 : Index := 0#32
  ![v120.toNat, 0, 0]
def k0_off6 (d0 : Dev nD) (c0_i32_44 : BitVec 32) (c0_i32_59 : BitVec 32) : Fin 4 → Nat :=
  let c0_60 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v107 : BitVec 32 := Scalar.subi v2 c0_i32_44
  let c8_i32_45 : BitVec 32 := 8#32
  let v108 : BitVec 32 := Scalar.addi v107 c8_i32_45
  let c8_i32_46 : BitVec 32 := 8#32
  let v109 : BitVec 32 := Scalar.remsi v108 c8_i32_46
  let c8_i32_58 : BitVec 32 := 8#32
  let v126 : BitVec 32 := Scalar.muli v109 c8_i32_58
  let v127 : BitVec 32 := Scalar.addi v126 c0_i32_59
  let v128 : Index := Scalar.indexCast v127
  let c0_61 : Index := 0#32
  let c0_62 : Index := 0#32
  ![0, v128.toNat, 0, 0]
def k0_off7 (d0 : Dev nD) (c0_i32_44 : BitVec 32) (c0_i32_224 : BitVec 32) : Fin 4 → Nat :=
  let c1 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v107 : BitVec 32 := Scalar.subi v2 c0_i32_44
  let c8_i32_45 : BitVec 32 := 8#32
  let v108 : BitVec 32 := Scalar.addi v107 c8_i32_45
  let c8_i32_46 : BitVec 32 := 8#32
  let v109 : BitVec 32 := Scalar.remsi v108 c8_i32_46
  let c8_i32_223 : BitVec 32 := 8#32
  let v374 : BitVec 32 := Scalar.muli v109 c8_i32_223
  let v375 : BitVec 32 := Scalar.addi v374 c0_i32_224
  let v376 : Index := Scalar.indexCast v375
  let c0_225 : Index := 0#32
  let c0_226 : Index := 0#32
  ![1, v376.toNat, 0, 0]
def k0_off8 (d0 : Dev nD) (c0_i32_44 : BitVec 32) : Fin 2 → Nat :=
  let c1_i32_399 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v107 : BitVec 32 := Scalar.subi v2 c0_i32_44
  let c8_i32_45 : BitVec 32 := 8#32
  let v108 : BitVec 32 := Scalar.addi v107 c8_i32_45
  let c8_i32_46 : BitVec 32 := 8#32
  let v109 : BitVec 32 := Scalar.remsi v108 c8_i32_46
  ![1, v109.toNat]
def k0_off9 (d0 : Dev nD) (c0_i32_44 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v107 : BitVec 32 := Scalar.subi v2 c0_i32_44
  let c8_i32_45 : BitVec 32 := 8#32
  let v108 : BitVec 32 := Scalar.addi v107 c8_i32_45
  let c8_i32_46 : BitVec 32 := 8#32
  let v109 : BitVec 32 := Scalar.remsi v108 c8_i32_46
  let c0_i32_402 : BitVec 32 := 0#32
  let c0_i32_403 : BitVec 32 := 0#32
  ![v109.toNat, 0, 0]
def k0_dev4 (d0 : Dev nD) : Nat :=
  let c0_i32_401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_400 : BitVec 32 := 1#32
  let v621 : BitVec 32 := Scalar.muli v7 c1_i32_400
  let v622 : BitVec 32 := Scalar.addi c0_i32_401 v621
  v622.toNat
def k0_off10 (d0 : Dev nD) (c0_i32_44 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v107 : BitVec 32 := Scalar.subi v2 c0_i32_44
  let c8_i32_45 : BitVec 32 := 8#32
  let v108 : BitVec 32 := Scalar.addi v107 c8_i32_45
  let c8_i32_46 : BitVec 32 := 8#32
  let v109 : BitVec 32 := Scalar.remsi v108 c8_i32_46
  let v633 : Index := Scalar.indexCast v109
  let c0_409 : Index := 0#32
  let c0_410 : Index := 0#32
  ![v633.toNat, 0, 0]
def k0_dev5 (d0 : Dev nD) : Nat :=
  let c0_i32_438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_437 : BitVec 32 := 1#32
  let v660 : BitVec 32 := Scalar.muli v7 c1_i32_437
  let v661 : BitVec 32 := Scalar.addi c0_i32_438 v660
  v661.toNat
def k0_dev6 (d0 : Dev nD) : Nat :=
  let c0_i32_809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_808 : BitVec 32 := 1#32
  let v1179 : BitVec 32 := Scalar.muli v7 c1_i32_808
  let v1180 : BitVec 32 := Scalar.addi c0_i32_809 v1179
  v1180.toNat
def k0_dev7 (d0 : Dev nD) : Nat :=
  let c0_i32_852 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_851 : BitVec 32 := 1#32
  let v1224 : BitVec 32 := Scalar.muli v7 c1_i32_851
  let v1225 : BitVec 32 := Scalar.addi c0_i32_852 v1224
  v1225.toNat
def k0_dev8 (d0 : Dev nD) : Nat :=
  let c0_i32_1223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1222 : BitVec 32 := 1#32
  let v1743 : BitVec 32 := Scalar.muli v7 c1_i32_1222
  let v1744 : BitVec 32 := Scalar.addi c0_i32_1223 v1743
  v1744.toNat
def k0_dev9 (d0 : Dev nD) : Nat :=
  let c0_i32_1266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1265 : BitVec 32 := 1#32
  let v1788 : BitVec 32 := Scalar.muli v7 c1_i32_1265
  let v1789 : BitVec 32 := Scalar.addi c0_i32_1266 v1788
  v1789.toNat
def k0_dev10 (d0 : Dev nD) : Nat :=
  let c0_i32_1637 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1636 : BitVec 32 := 1#32
  let v2307 : BitVec 32 := Scalar.muli v7 c1_i32_1636
  let v2308 : BitVec 32 := Scalar.addi c0_i32_1637 v2307
  v2308.toNat
def k0_dev11 (d0 : Dev nD) : Nat :=
  let c0_i32_1680 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1679 : BitVec 32 := 1#32
  let v2352 : BitVec 32 := Scalar.muli v7 c1_i32_1679
  let v2353 : BitVec 32 := Scalar.addi c0_i32_1680 v2352
  v2353.toNat
def k0_dev12 (d0 : Dev nD) : Nat :=
  let c0_i32_2051 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2050 : BitVec 32 := 1#32
  let v2871 : BitVec 32 := Scalar.muli v7 c1_i32_2050
  let v2872 : BitVec 32 := Scalar.addi c0_i32_2051 v2871
  v2872.toNat
def k0_dev13 (d0 : Dev nD) : Nat :=
  let c0_i32_2094 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2093 : BitVec 32 := 1#32
  let v2916 : BitVec 32 := Scalar.muli v7 c1_i32_2093
  let v2917 : BitVec 32 := Scalar.addi c0_i32_2094 v2916
  v2917.toNat
def k0_dev14 (d0 : Dev nD) : Nat :=
  let c0_i32_2465 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2464 : BitVec 32 := 1#32
  let v3435 : BitVec 32 := Scalar.muli v7 c1_i32_2464
  let v3436 : BitVec 32 := Scalar.addi c0_i32_2465 v3435
  v3436.toNat
def k0_dev15 (d0 : Dev nD) : Nat :=
  let c0_i32_2508 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2507 : BitVec 32 := 1#32
  let v3480 : BitVec 32 := Scalar.muli v7 c1_i32_2507
  let v3481 : BitVec 32 := Scalar.addi c0_i32_2508 v3480
  v3481.toNat
def k0_dev16 (d0 : Dev nD) : Nat :=
  let c0_i32_2879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2878 : BitVec 32 := 1#32
  let v3999 : BitVec 32 := Scalar.muli v7 c1_i32_2878
  let v4000 : BitVec 32 := Scalar.addi c0_i32_2879 v3999
  v4000.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x64x512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x64x512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x4096x768 : Shape := ⟨3, ![2, 4096, 768]⟩
abbrev S768x4096 : Shape := ⟨2, ![768, 4096]⟩
abbrev S2x512x64x64 : Shape := ⟨4, ![2, 512, 64, 64]⟩
abbrev S4096x768 : Shape := ⟨2, ![4096, 768]⟩
abbrev S2x4096x4096 : Shape := ⟨3, ![2, 4096, 4096]⟩
abbrev S2x4096x64x64 : Shape := ⟨4, ![2, 4096, 64, 64]⟩
abbrev S4096 : Shape := ⟨1, ![4096]⟩
abbrev S_ : Shape := ⟨0, ![]⟩
abbrev S4096x1 : Shape := ⟨2, ![4096, 1]⟩
abbrev S512 : Shape := ⟨1, ![512]⟩
abbrev S1x512 : Shape := ⟨2, ![1, 512]⟩
abbrev S4096x512 : Shape := ⟨2, ![4096, 512]⟩
abbrev S2x64x4096x512 : Shape := ⟨4, ![2, 64, 4096, 512]⟩
abbrev S1x1x4096x512 : Shape := ⟨4, ![1, 1, 4096, 512]⟩
abbrev S2x64x4096 : Shape := ⟨3, ![2, 64, 4096]⟩
abbrev S2x64x4096x1 : Shape := ⟨4, ![2, 64, 4096, 1]⟩
abbrev S1x1x4096x1 : Shape := ⟨4, ![1, 1, 4096, 1]⟩
abbrev S2x64x64x4096 : Shape := ⟨4, ![2, 64, 64, 4096]⟩

abbrev nBuf : Space → Nat
  | .hbm => 126
  | .vmem => 0
  | .smem => 0
  | _ => 0

abbrev bufTy : (tb : Table) → Fin (tcTables nBuf tb) → BufTy
  | .hbm, ⟨0, _⟩ => ⟨S2x4096x768, .bf16⟩
  | .hbm, ⟨1, _⟩ => ⟨S768x4096, .bf16⟩
  | .hbm, ⟨2, _⟩ => ⟨S2x512x64x64, .bf16⟩
  | .hbm, ⟨3, _⟩ => ⟨S2x512x64x64, .bf16⟩
  | .hbm, ⟨4, _⟩ => ⟨S4096x768, .bf16⟩
  | .hbm, ⟨5, _⟩ => ⟨S2x4096x4096, .f32⟩
  | .hbm, ⟨6, _⟩ => ⟨S2x4096x4096, .bf16⟩
  | .hbm, ⟨7, _⟩ => ⟨S2x4096x64x64, .bf16⟩
  | .hbm, ⟨8, _⟩ => ⟨S4096, .i32⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1, .i32⟩
  | .hbm, ⟨28, _⟩ => ⟨S512, .i32⟩
  | .hbm, ⟨29, _⟩ => ⟨S_, .i32⟩
  | .hbm, ⟨30, _⟩ => ⟨S_, .i32⟩
  | .hbm, ⟨31, _⟩ => ⟨S512, .i32⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S512, .i32⟩
  | .hbm, ⟨38, _⟩ => ⟨S512, .i32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S512, .i1⟩
  | .hbm, ⟨43, _⟩ => ⟨S_, .i32⟩
  | .hbm, ⟨44, _⟩ => ⟨S512, .i32⟩
  | .hbm, ⟨45, _⟩ => ⟨S512, .i32⟩
  | .hbm, ⟨46, _⟩ => ⟨S512, .i32⟩
  | .hbm, ⟨47, _⟩ => ⟨S1x512, .i32⟩
  | .hbm, ⟨48, _⟩ => ⟨S4096x512, .i32⟩
  | .hbm, ⟨49, _⟩ => ⟨S4096x512, .i32⟩
  | .hbm, ⟨50, _⟩ => ⟨S4096x512, .i1⟩
  | .hbm, ⟨51, _⟩ => ⟨S_, .i32⟩
  | .hbm, ⟨52, _⟩ => ⟨S1x512, .i32⟩
  | .hbm, ⟨53, _⟩ => ⟨S1x512, .i1⟩
  | .hbm, ⟨54, _⟩ => ⟨S4096x512, .i1⟩
  | .hbm, ⟨55, _⟩ => ⟨S4096x512, .i1⟩
  | .hbm, ⟨56, _⟩ => ⟨S4096x512, .i32⟩
  | .hbm, ⟨57, _⟩ => ⟨S4096x512, .i32⟩
  | .hbm, ⟨58, _⟩ => ⟨S4096x512, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S4096x512, .i32⟩
  | .hbm, ⟨66, _⟩ => ⟨S4096x512, .i32⟩
  | .hbm, ⟨67, _⟩ => ⟨S_, .i32⟩
  | .hbm, ⟨68, _⟩ => ⟨S4096x512, .i32⟩
  | .hbm, ⟨69, _⟩ => ⟨S4096x512, .i1⟩
  | .hbm, ⟨70, _⟩ => ⟨S_, .i32⟩
  | .hbm, ⟨71, _⟩ => ⟨S4096x512, .i32⟩
  | .hbm, ⟨72, _⟩ => ⟨S4096x512, .i1⟩
  | .hbm, ⟨73, _⟩ => ⟨S_, .i32⟩
  | .hbm, ⟨74, _⟩ => ⟨S_, .i1⟩
  | .hbm, ⟨75, _⟩ => ⟨S4096x512, .i1⟩
  | .hbm, ⟨76, _⟩ => ⟨S4096x512, .i1⟩
  | .hbm, ⟨77, _⟩ => ⟨S4096x512, .i1⟩
  | .hbm, ⟨78, _⟩ => ⟨S4096x512, .i32⟩
  | .hbm, ⟨79, _⟩ => ⟨S4096x512, .i32⟩
  | .hbm, ⟨80, _⟩ => ⟨S4096x512, .i32⟩
  | .hbm, ⟨81, _⟩ => ⟨S_, .i32⟩
  | .hbm, ⟨82, _⟩ => ⟨S4096x512, .i32⟩
  | .hbm, ⟨83, _⟩ => ⟨S4096x512, .i1⟩
  | .hbm, ⟨84, _⟩ => ⟨S4096x512, .i1⟩
  | .hbm, ⟨85, _⟩ => ⟨S2x64x4096x512, .f32⟩
  | .hbm, ⟨86, _⟩ => ⟨S2x64x4096x512, .bf16⟩
  | .hbm, ⟨87, _⟩ => ⟨S2x64x4096x512, .f32⟩
  | .hbm, ⟨88, _⟩ => ⟨S_, .f32⟩
  | .hbm, ⟨89, _⟩ => ⟨S2x64x4096x512, .f32⟩
  | .hbm, ⟨90, _⟩ => ⟨S2x64x4096x512, .f32⟩
  | .hbm, ⟨91, _⟩ => ⟨S1x1x4096x512, .i1⟩
  | .hbm, ⟨92, _⟩ => ⟨S_, .f32⟩
  | .hbm, ⟨93, _⟩ => ⟨S_, .f32⟩
  | .hbm, ⟨94, _⟩ => ⟨S2x64x4096x512, .i1⟩
  | .hbm, ⟨95, _⟩ => ⟨S2x64x4096x512, .f32⟩
  | .hbm, ⟨96, _⟩ => ⟨S2x64x4096x512, .f32⟩
  | .hbm, ⟨97, _⟩ => ⟨S_, .f32⟩
  | .hbm, ⟨98, _⟩ => ⟨S2x64x4096, .f32⟩
  | .hbm, ⟨99, _⟩ => ⟨S2x64x4096x1, .f32⟩
  | .hbm, ⟨100, _⟩ => ⟨S2x64x4096x512, .f32⟩
  | .hbm, ⟨101, _⟩ => ⟨S2x64x4096x512, .f32⟩
  | .hbm, ⟨102, _⟩ => ⟨S2x64x4096x512, .f32⟩
  | .hbm, ⟨103, _⟩ => ⟨S_, .i1⟩
  | .hbm, ⟨104, _⟩ => ⟨S4096, .i1⟩
  | .hbm, ⟨105, _⟩ => ⟨S1x1x4096x1, .i1⟩
  | .hbm, ⟨106, _⟩ => ⟨S_, .f32⟩
  | .hbm, ⟨107, _⟩ => ⟨S2x64x4096, .f32⟩
  | .hbm, ⟨108, _⟩ => ⟨S2x64x4096x1, .f32⟩
  | .hbm, ⟨109, _⟩ => ⟨S_, .f32⟩
  | .hbm, ⟨110, _⟩ => ⟨S_, .f32⟩
  | .hbm, ⟨111, _⟩ => ⟨S2x64x4096x1, .i1⟩
  | .hbm, ⟨112, _⟩ => ⟨S2x64x4096x1, .f32⟩
  | .hbm, ⟨113, _⟩ => ⟨S2x64x4096x1, .f32⟩
  | .hbm, ⟨114, _⟩ => ⟨S2x64x4096x512, .f32⟩
  | .hbm, ⟨115, _⟩ => ⟨S2x64x4096x512, .f32⟩
  | .hbm, ⟨116, _⟩ => ⟨S1x1x4096x1, .i1⟩
  | .hbm, ⟨117, _⟩ => ⟨S_, .f32⟩
  | .hbm, ⟨118, _⟩ => ⟨S_, .f32⟩
  | .hbm, ⟨119, _⟩ => ⟨S2x64x4096x512, .i1⟩
  | .hbm, ⟨120, _⟩ => ⟨S2x64x4096x512, .f32⟩
  | .hbm, ⟨121, _⟩ => ⟨S2x64x4096x512, .f32⟩
  | .hbm, ⟨122, _⟩ => ⟨S2x64x64x4096, .f32⟩
  | .hbm, ⟨123, _⟩ => ⟨S2x4096x64x64, .f32⟩
  | .hbm, ⟨124, _⟩ => ⟨S2x4096x4096, .f32⟩
  | .hbm, ⟨125, _⟩ => ⟨S2x4096x768, .f32⟩
  | _, _ => ⟨S2x4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_2 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v19 : Ref sig .tc := ⟨.hbm, 80, rfl⟩
abbrev main_c_3 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_cst : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_4 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v29 : Ref sig .tc := ⟨.hbm, 96, rfl⟩
abbrev main_cst_5 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_c_6 : Ref sig .tc := ⟨.hbm, 103, rfl⟩
abbrev main_v35 : Ref sig .tc := ⟨.hbm, 104, rfl⟩
abbrev main_v36 : Ref sig .tc := ⟨.hbm, 105, rfl⟩
abbrev main_cst_7 : Ref sig .tc := ⟨.hbm, 106, rfl⟩
abbrev main_v37 : Ref sig .tc := ⟨.hbm, 107, rfl⟩
abbrev main_v38 : Ref sig .tc := ⟨.hbm, 108, rfl⟩
abbrev main_cst_8 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_cst_9 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩

abbrev nD : Nat := 1
abbrev τ : Topo := Topo.v7x

variable {F : FTy → Type} [FloatOps F]
-- ==== Proof.Ring.Body.lean ====
/- The kernel's body written as a structured program: one piece per thing that a hop does, each piece at a symbolic
   offset, the heads and the hops as lists. `body_eq` says that the printed body is this program. -/
module

public import proofs.«01_k».proof.Proof.Gen.KernelIdeal.Points
public import proofs.«01_k».proof.Proof.Gen.KernelIdeal.Launch
public import Idealize.ShloMosaic.Lib.Tactic

@[expose] public section

noncomputable section

namespace Cert.KernelIdeal.Ring

open Idealize.SL Idealize.SL.Sem Idealize.ShloMosaic Idealize.ShloMosaic.TcCoe
open Cert.KernelIdeal.Facts₀ Cert.KernelIdeal.Facts

variable {F : FTy → Type} [FloatOps F] [Named F]

/-- A program of one core. -/
abbrev KProg (F : FTy → Type) (α : Type) : Type 1 := Prog (TpuEff nD τ sig (Elt F) Λ₀ .tc) α

/-! ## The buffers -/

/-- The operands' staging buffers: x (already scaled), this device's block of Wq, K, V, this device's block of Wo, the result. -/
abbrev xM : Memref sig .tc .vmem S2x512x768 .bf16 := stage0_0 0
abbrev wqM : Memref sig .tc .vmem S768x512 .bf16 := stage0_1 0
abbrev kM : Memref sig .tc .vmem S2x64x512x64 .bf16 := stage0_2 0
abbrev vM : Memref sig .tc .vmem S2x64x512x64 .bf16 := stage0_3 0
abbrev woM : Memref sig .tc .vmem S512x768 .bf16 := stage0_4 0
abbrev outM : Memref sig .tc .vmem S2x512x768 .f32 := stage0_5 0
/-- The scratch buffers: the eight blocks of Wq, the eight blocks of Wo, the mask's bias, the heads' results, V with a column of ones. -/
abbrev qB : Memref sig .tc .vmem S8x768x512 .bf16 := Memref.whole cc0_scratch0
abbrev oB : Memref sig .tc .vmem S8x512x768 .bf16 := Memref.whole cc0_scratch1
abbrev biasM : Memref sig .tc .vmem S512x512 .f32 := Memref.whole cc0_scratch2
abbrev ctxM : Memref sig .tc .vmem S2x512x512 .bf16 := Memref.whole cc0_scratch3
abbrev vaM : Memref sig .tc .vmem S512x128 .bf16 := Memref.whole cc0_scratch4

/-- The barrier's semaphore. -/
abbrev barS : Sem sig := (SemArray.scalar (sig.barrier 0 rfl) : Sems sig S_).sem

/-! ## The values -/

/-- The mask's bias on device `d0`, as the kernel computes it: zero where a row's key is kept, the named mask elsewhere. -/
def biasV (d0 : Dev nD) : FVec F S512x512 .f32 :=
  let v15 : BitVec 32 := Scalar.muli (Scalar.remsi (Scalar.divsi (Dev.word d0) 1#32) 8#32) 8#32
  have v13 : IVec S512x512 32 := iota .tc S512x512 32 [0] iota_S512x512_d0_w32
  have v14 : IVec S512x512 32 := iota .tc S512x512 32 [1] iota_S512x512_d1_w32
  have bc : BitVec 32 → IVec S512x512 32 := fun b => broadcast S512x512 b
  have sg : IVec S512x512 32 → IVec S512x512 32 := fun v => subi (extui 32 (cmpi .sgt v (bc 0#32)) natLt_1_32) (extui 32 (cmpi .slt v (bc 0#32)) natLt_1_32)
  have s64 : BitVec 32 := Scalar.subi (Scalar.extui (Scalar.cmpi .sgt 64#32 0#32)) (Scalar.extui (Scalar.cmpi .slt 64#32 0#32))
  have fl : IVec S512x512 32 → IVec S512x512 32 := fun v =>
    select (andi (cmpi .ne (sg v) (bc s64)) (cmpi .ne (remsi v (bc 64#32)) (bc 0#32))) (subi (divsi v (bc 64#32)) (bc 1#32)) (divsi v (bc 64#32))
  have v41 : IVec S512x512 32 := addi (bc v15) (fl v13)
  have v65 : IVec S512x512 32 := fl v14
  have keep : IVec S512x512 1 := ori (ori (cmpi .eq v41 v65) (cmpi .eq v65 (bc 0#32))) (cmpi .eq (remsi (addi v41 v65) (bc 3#32)) (bc 0#32))
  have zero : F .f32 := Scalar.ofBits .f32 0x00000000#32
  have mask : F .f32 := Named.named κ "mask" 0xCE6E6B28#32
  select keep (broadcast S512x512 zero) (broadcast S512x512 mask)

/-- The column of ones beside V: one at lane 64, zero at the other lanes. -/
def onesV : FVec F S512x128 .bf16 :=
  have one : F .f32 := Scalar.ofBits .f32 0x3F800000#32
  have zero : F .f32 := Scalar.ofBits .f32 0x00000000#32
  truncf .bf16 (select (cmpi .eq (iota .tc S512x128 32 [1] iota_S512x128_d1_w32) (broadcast S512x128 64#32)) (broadcast S512x128 one) (broadcast S512x128 zero)) bitsLt_bf16_f32

/-- Both batches' rows of x below one another. -/
def rowsV (x : Vec F S2x512x768 .bf16) : FVec F S1024x768 .bf16 :=
  shapeCast S1024x768 (shapeCast S2x512x768 x shapeCasts_S2x512x768_S2x512x768) shapeCasts_S2x512x768_S1024x768

/-- The queries of one block of heads. -/
def projV (x : FVec F S1024x768 .bf16) (w : Vec F S1x768x512 .bf16) : FVec F S1024x512 .bf16 :=
  truncf .bf16 (matmul dot_S1024x768_S768x512_S1024x512_1_0_0_1_n_n none x (shapeCast S768x512 w shapeCasts_S1x768x512_S768x512) (constant S1024x512 .f32 0x00000000#32)) bitsLt_bf16_f32

/-- The unnormalised weights of one head. -/
def weightV (q : FVec F S512x64 .bf16) (k : Vec F S1x1x512x64 .bf16) (bias : Vec F S512x512 .f32) : FVec F S512x512 .bf16 :=
  truncf .bf16 (exp (addf (matmul dot_S512x64_S512x64_S512x512_1_1_0_0_n_n none q (shapeCast S512x64 k shapeCasts_S1x1x512x64_S512x64) (constant S512x512 .f32 0x00000000#32)) bias)) bitsLt_bf16_f32

/-- One head's V as it is put beside the column of ones. -/
def vPartV (v : Vec F S1x1x512x64 .bf16) : FVec F S512x64 .bf16 :=
  shapeCast S512x64 (shapeCast S512x64 v shapeCasts_S1x1x512x64_S512x64) shapeCasts_S512x64_S512x64

/-- One head's result: the weighted V over the weights' sum, both read off one product. -/
def normV (w : FVec F S512x512 .bf16) (va : Vec F S512x128 .bf16) : FVec F S1x512x64 .bf16 :=
  have cs : FVec F S512x128 .f32 := matmul dot_S512x512_S512x128_S512x128_1_0_0_1_n_n none w va (constant S512x128 .f32 0x00000000#32)
  have one : F .f32 := Scalar.ofBits .f32 0x3F800000#32
  shapeCast S1x512x64 (truncf .bf16 (mulf (extractStridedSlice S512x64 ![0, 0] cs slices_S512x128_o0_0_S512x64)
    (broadcastTo S512x64 (divf (broadcast S512x1 one) (extractStridedSlice S512x1 ![0, 64] cs slices_S512x128_o0_64_S512x1)) broadcasts_S512x1_S512x64)) bitsLt_bf16_f32) shapeCasts_S512x64_S1x512x64

/-- One block of heads' contribution to the result. -/
def contribV (cx : Vec F S1x512x512 .bf16) (wo : Vec F S1x512x768 .bf16) : FVec F S512x768 .f32 :=
  matmul dot_S512x512_S512x768_S512x768_1_0_0_1_n_n none (shapeCast S512x512 cx shapeCasts_S1x512x512_S512x512) (shapeCast S512x768 wo shapeCasts_S1x512x768_S512x768) (constant S512x768 .f32 0x00000000#32)

/-! ## The pieces -/

/-- Slot `o` of the eight blocks of Wq, and of the eight of Wo. -/
abbrev qSlot (o : Fin 3 → ℕ) (ho : ∀ a, o a + S1x768x512.size a ≤ S8x768x512.size a) : Memref sig .tc .vmem S768x512 .bf16 :=
  (qB.slice (Rect.unit (s := S8x768x512) o S1x768x512.size ho) (fun _ => rfl)).squeeze S768x512 squeezes_S1x768x512_S768x512
abbrev oSlot (o : Fin 3 → ℕ) (ho : ∀ a, o a + S1x512x768.size a ≤ S8x512x768.size a) : Memref sig .tc .vmem S512x768 .bf16 :=
  (oB.slice (Rect.unit (s := S8x512x768) o S1x512x768.size ho) (fun _ => rfl)).squeeze S512x768 squeezes_S1x512x768_S512x768

/-- The semaphore at `o` of an array of two rows of eight. -/
abbrev semAt (A : DmaSems sig S2x8) (o : Fin 2 → ℕ) (ho : ∀ a, o a + S1x1.size a ≤ S2x8.size a) : DmaSem sig :=
  ((A.slice (Rect.unit (s := S2x8) o S1x1.size ho)).squeeze S_ squeezes_S1x1_S_).sem

theorem qWords {o : Fin 3 → ℕ} {ho : ∀ a, o a + S1x768x512.size a ≤ S8x768x512.size a}
    (hw : (Rect.unit (s := S8x768x512) o S1x768x512.size ho).WholeWords (EltTy.packing .bf16)) : (qSlot o ho).view.WordExact :=
  ((Memref.isWhole_whole cc0_scratch0).wordExact_slice rfl _ hw).reshape _ _
theorem oWords {o : Fin 3 → ℕ} {ho : ∀ a, o a + S1x512x768.size a ≤ S8x512x768.size a}
    (hw : (Rect.unit (s := S8x512x768) o S1x512x768.size ho).WholeWords (EltTy.packing .bf16)) : (oSlot o ho).view.WordExact :=
  ((Memref.isWhole_whole cc0_scratch1).wordExact_slice rfl _ hw).reshape _ _

/-- The start of the copy of Wq's slot `o` to the next device, and the wait for it at an end. -/
def sendQ (dst : Dev nD) (o : Fin 3 → ℕ) (ho : ∀ a, o a + S1x768x512.size a ≤ S8x768x512.size a)
    (hw : (Rect.unit (s := S8x768x512) o S1x768x512.size ho).WholeWords (EltTy.packing .bf16))
    (so : Fin 2 → ℕ) (hso : ∀ a, so a + S1x1.size a ≤ S2x8.size a) : KProg F PUnit :=
  Prog.lift (.enqueueDma (qSlot o ho) (.remote (Dev.tc dst) (qSlot o ho) (.dma (semAt cc0_scratch5 so hso))) (.dma (semAt cc0_scratch6 so hso))
    (qWords hw) (qWords hw) ⟨⟨rfl, Or.inl rfl⟩, trivial⟩)
def waitQ (A : DmaSems sig S2x8) (o : Fin 3 → ℕ) (ho : ∀ a, o a + S1x768x512.size a ≤ S8x768x512.size a)
    (hw : (Rect.unit (s := S8x768x512) o S1x768x512.size ho).WholeWords (EltTy.packing .bf16))
    (so : Fin 2 → ℕ) (hso : ∀ a, so a + S1x1.size a ≤ S2x8.size a) : KProg F PUnit :=
  Prog.lift (.waitDma2 (semAt A so hso) (qSlot o ho) (qSlot o ho) (qWords hw) (qWords hw))
/-- The same of Wo's. -/
def sendO (dst : Dev nD) (o : Fin 3 → ℕ) (ho : ∀ a, o a + S1x512x768.size a ≤ S8x512x768.size a)
    (hw : (Rect.unit (s := S8x512x768) o S1x512x768.size ho).WholeWords (EltTy.packing .bf16))
    (so : Fin 2 → ℕ) (hso : ∀ a, so a + S1x1.size a ≤ S2x8.size a) : KProg F PUnit :=
  Prog.lift (.enqueueDma (oSlot o ho) (.remote (Dev.tc dst) (oSlot o ho) (.dma (semAt cc0_scratch5 so hso))) (.dma (semAt cc0_scratch6 so hso))
    (oWords hw) (oWords hw) ⟨⟨rfl, Or.inl rfl⟩, trivial⟩)
def waitO (A : DmaSems sig S2x8) (o : Fin 3 → ℕ) (ho : ∀ a, o a + S1x512x768.size a ≤ S8x512x768.size a)
    (hw : (Rect.unit (s := S8x512x768) o S1x512x768.size ho).WholeWords (EltTy.packing .bf16))
    (so : Fin 2 → ℕ) (hso : ∀ a, so a + S1x1.size a ≤ S2x8.size a) : KProg F PUnit :=
  Prog.lift (.waitDma2 (semAt A so hso) (oSlot o ho) (oSlot o ho) (oWords hw) (oWords hw))

/-- Hop `h`'s four copies' pieces on device `d0`, at the printed offsets. -/
abbrev hopSendQ (d0 dst : Dev nD) (h : Fin 8) : KProg F PUnit := sendQ dst (k0_off4 d0 (BitVec.ofNat 32 h.val)) (k0_off4_inb d0 h) (k0_off4_wordsbf16 d0 h) (k0_off3 d0 (BitVec.ofNat 32 h.val)) (k0_off3_inb d0 h)
abbrev hopWaitQ (A : DmaSems sig S2x8) (d0 : Dev nD) (h : Fin 8) : KProg F PUnit := waitQ A (k0_off4 d0 (BitVec.ofNat 32 h.val)) (k0_off4_inb d0 h) (k0_off4_wordsbf16 d0 h) (k0_off3 d0 (BitVec.ofNat 32 h.val)) (k0_off3_inb d0 h)
abbrev hopSendO (d0 dst : Dev nD) (h : Fin 8) : KProg F PUnit := sendO dst (k0_off9 d0 (BitVec.ofNat 32 h.val)) (k0_off9_inb d0 h) (k0_off9_wordsbf16 d0 h) (k0_off8 d0 (BitVec.ofNat 32 h.val)) (k0_off8_inb d0 h)
abbrev hopWaitO (A : DmaSems sig S2x8) (d0 : Dev nD) (h : Fin 8) : KProg F PUnit := waitO A (k0_off9 d0 (BitVec.ofNat 32 h.val)) (k0_off9_inb d0 h) (k0_off9_wordsbf16 d0 h) (k0_off8 d0 (BitVec.ofNat 32 h.val)) (k0_off8_inb d0 h)

/-- One head's columns of the heads' results are in bounds, and whole words. -/
theorem ctxIn : ∀ (b : Fin 2) (n : Fin 8), ∀ a, (![b.val, 0, 64 * n.val] : Fin 3 → ℕ) a + S1x512x64.size a ≤ S2x512x512.size a := by decide
theorem ctxPacked : ∀ (b : Fin 2) (n : Fin 8), (Rect.unit (s := S2x512x512) ![b.val, 0, 64 * n.val] S1x512x64.size (ctxIn b n)).PackedRows (EltTy.packing .bf16) := by decide
/-- One head's part of the queries lies in them. -/
theorem headSlices : ∀ (b : Fin 2) (n : Fin 8), S1024x512.Slices ![512 * b.val, 64 * n.val] S512x64 := by decide
/-- One batch's part of the heads' results and of the result lies in them. -/
theorem ctxRow : ∀ (b : Fin 2) (a), (![b.val, 0, 0] : Fin 3 → ℕ) a + S1x512x512.size a ≤ S2x512x512.size a := by decide
theorem outRow : ∀ (b : Fin 2) (a), (![b.val, 0, 0] : Fin 3 → ℕ) a + S1x512x768.size a ≤ S2x512x768.size a := by decide

/-- One head: from its queries `q`, with K and V at `o`, its results put at batch `b`, head `n`. -/
def head (o : Fin 4 → ℕ) (ho : ∀ a, o a + S1x1x512x64.size a ≤ S2x64x512x64.size a) (b : Fin 2) (n : Fin 8) (q : FVec F S512x64 .bf16) : KProg F PUnit := do
  let k : Vec F S1x1x512x64 .bf16 ← Prog.lift (.load kM (Rect.unit (s := S2x64x512x64) o S1x1x512x64.size ho).toLoadRect (View.loadsAt_vmem h_S1x1x512x64))
  let bias : Vec F S512x512 .f32 ← Prog.lift (.load biasM (Rect.unit (s := S512x512) ![0, 0] S512x512.size inb_S512x512_S512x512_0_0).toLoadRect (View.loadsAt_vmem h_S512x512))
  let v : Vec F S1x1x512x64 .bf16 ← Prog.lift (.load vM (Rect.unit (s := S2x64x512x64) o S1x1x512x64.size ho).toLoadRect (View.loadsAt_vmem h_S1x1x512x64))
  let _ : Vec F S512x64 .bf16 ← Prog.lift (.load vaM (Rect.unit (s := S512x128) ![0, 0] S512x64.size inb_S512x128_S512x64_0_0).toLoadRect (View.loadsAt_vmem h_S512x64))
  Prog.lift (.store vaM (Rect.unit (s := S512x128) ![0, 0] S512x64.size inb_S512x128_S512x64_0_0) (vPartV v) Finset.univ
    (View.stores_vmem h_S512x64 ((Memref.isWhole_whole cc0_scratch4).storeExact_slice rfl _ packedbf16_S512x128_S512x64_0_0) (fun _ => rfl)) (.inl rfl))
  let va : Vec F S512x128 .bf16 ← Prog.lift (.load vaM (Rect.unit (s := S512x128) ![0, 0] S512x128.size inb_S512x128_S512x128_0_0).toLoadRect (View.loadsAt_vmem h_S512x128))
  let _ : Vec F S1x512x64 .bf16 ← Prog.lift (.load ctxM (Rect.unit (s := S2x512x512) ![b.val, 0, 64 * n.val] S1x512x64.size (ctxIn b n)).toLoadRect (View.loadsAt_vmem h_S1x512x64))
  Prog.lift (.store ctxM (Rect.unit (s := S2x512x512) ![b.val, 0, 64 * n.val] S1x512x64.size (ctxIn b n)) (normV (weightV q k bias) va) Finset.univ
    (View.stores_vmem h_S1x512x64 ((Memref.isWhole_whole cc0_scratch3).storeExact_slice rfl _ (ctxPacked b n)) (fun _ => rfl)) (.inl rfl))

/-- A hop's heads, batch 0's and batch 1's, one after another. -/
def heads0 (d0 : Dev nD) (h : Fin 8) (qf : FVec F S1024x512 .bf16) : List (Fin 8) → KProg F PUnit
  | [] => pure PUnit.unit
  | n :: ns => do
    head (k0_off6 d0 (BitVec.ofNat 32 h.val) (BitVec.ofNat 32 n.val)) (k0_off6_inb d0 h n) 0 n (extractStridedSlice S512x64 ![512 * (0 : Fin 2).val, 64 * n.val] qf (headSlices 0 n))
    heads0 d0 h qf ns
def heads1 (d0 : Dev nD) (h : Fin 8) (qf : FVec F S1024x512 .bf16) : List (Fin 8) → KProg F PUnit
  | [] => pure PUnit.unit
  | n :: ns => do
    head (k0_off7 d0 (BitVec.ofNat 32 h.val) (BitVec.ofNat 32 n.val)) (k0_off7_inb d0 h n) 1 n (extractStridedSlice S512x64 ![512 * (1 : Fin 2).val, 64 * n.val] qf (headSlices 1 n))
    heads1 d0 h qf ns

/-- A hop's sixteen heads from the block of Wq in hand. -/
def compute (d0 : Dev nD) (h : Fin 8) (x : FVec F S1024x768 .bf16) : KProg F PUnit := do
  let w : Vec F S1x768x512 .bf16 ← Prog.lift (.load qB (Rect.unit (s := S8x768x512) (k0_off5 d0 (BitVec.ofNat 32 h.val)) S1x768x512.size (k0_off5_inb d0 h)).toLoadRect (View.loadsAt_vmem h_S1x768x512))
  heads0 d0 h (projV x w) [0, 1, 2, 3, 4, 5, 6, 7]
  heads1 d0 h (projV x w) [0, 1, 2, 3, 4, 5, 6, 7]

/-- One batch's part of the result, from a hop's heads and its block of Wo: stored at the first hop, -/
def accFirst (d0 : Dev nD) (h : Fin 8) (b : Fin 2) : KProg F PUnit := do
  let cx : Vec F S1x512x512 .bf16 ← Prog.lift (.load ctxM (Rect.unit (s := S2x512x512) ![b.val, 0, 0] S1x512x512.size (ctxRow b)).toLoadRect (View.loadsAt_vmem h_S1x512x512))
  let wo : Vec F S1x512x768 .bf16 ← Prog.lift (.load oB (Rect.unit (s := S8x512x768) (k0_off10 d0 (BitVec.ofNat 32 h.val)) S1x512x768.size (k0_off10_inb d0 h)).toLoadRect (View.loadsAt_vmem h_S1x512x768))
  let _ : Vec F S1x512x768 .f32 ← Prog.lift (.load outM (Rect.unit (s := S2x512x768) ![b.val, 0, 0] S1x512x768.size (outRow b)).toLoadRect (View.loadsAt_vmem h_S1x512x768))
  Prog.lift (.store outM (Rect.unit (s := S2x512x768) ![b.val, 0, 0] S1x512x768.size (outRow b)) (shapeCast S1x512x768 (contribV cx wo) shapeCasts_S512x768_S1x512x768) Finset.univ
    (View.stores_vmem_bits_univ h_S1x512x768 rfl) (.inl rfl))
/-- added at the later ones. -/
def accNext (d0 : Dev nD) (h : Fin 8) (b : Fin 2) : KProg F PUnit := do
  let cx : Vec F S1x512x512 .bf16 ← Prog.lift (.load ctxM (Rect.unit (s := S2x512x512) ![b.val, 0, 0] S1x512x512.size (ctxRow b)).toLoadRect (View.loadsAt_vmem h_S1x512x512))
  let wo : Vec F S1x512x768 .bf16 ← Prog.lift (.load oB (Rect.unit (s := S8x512x768) (k0_off10 d0 (BitVec.ofNat 32 h.val)) S1x512x768.size (k0_off10_inb d0 h)).toLoadRect (View.loadsAt_vmem h_S1x512x768))
  let old : Vec F S1x512x768 .f32 ← Prog.lift (.load outM (Rect.unit (s := S2x512x768) ![b.val, 0, 0] S1x512x768.size (outRow b)).toLoadRect (View.loadsAt_vmem h_S1x512x768))
  let _ : Vec F S1x512x768 .f32 ← Prog.lift (.load outM (Rect.unit (s := S2x512x768) ![b.val, 0, 0] S1x512x768.size (outRow b)).toLoadRect (View.loadsAt_vmem h_S1x512x768))
  Prog.lift (.store outM (Rect.unit (s := S2x512x768) ![b.val, 0, 0] S1x512x768.size (outRow b))
    (shapeCast S1x512x768 (addf (shapeCast S512x768 old shapeCasts_S1x512x768_S512x768) (contribV cx wo)) shapeCasts_S512x768_S1x512x768) Finset.univ
    (View.stores_vmem_bits_univ h_S1x512x768 rfl) (.inl rfl))

/-- The signals to both neighbours and the wait for theirs. -/
def meet (d0 : Dev nD) : KProg F PUnit := do
  semSignalWord (⟨k0_dev1 d0, k0_dev1_lt d0⟩ : Dev nD) barS 1#32
  semSignalWord (⟨k0_dev2 d0, k0_dev2_lt d0⟩ : Dev nD) barS 1#32
  semWaitWord barS 2#32

/-- The mask's bias and the column of ones put in place. -/
def fillMask (d0 : Dev nD) : KProg F PUnit := do
  let _ : Vec F S512x512 .f32 ← Prog.lift (.load biasM (Rect.unit (s := S512x512) ![0, 0] S512x512.size inb_S512x512_S512x512_0_0).toLoadRect (View.loadsAt_vmem h_S512x512))
  Prog.lift (.store biasM (Rect.unit (s := S512x512) ![0, 0] S512x512.size inb_S512x512_S512x512_0_0) (shapeCast S512x512 (biasV d0) shapeCasts_S512x512_S512x512) Finset.univ
    (View.stores_vmem_bits_univ h_S512x512 rfl) (.inl rfl))
  let _ : Vec F S512x128 .bf16 ← Prog.lift (.load vaM (Rect.unit (s := S512x128) ![0, 0] S512x128.size inb_S512x128_S512x128_0_0).toLoadRect (View.loadsAt_vmem h_S512x128))
  Prog.lift (.store vaM (Rect.unit (s := S512x128) ![0, 0] S512x128.size inb_S512x128_S512x128_0_0) (shapeCast S512x128 onesV shapeCasts_S512x128_S512x128) Finset.univ
    (View.stores_vmem h_S512x128 ((Memref.isWhole_whole cc0_scratch4).storeExact_slice rfl _ packedbf16_S512x128_S512x128_0_0) (fun _ => rfl)) (.inl rfl))

/-- This device's blocks of Wq and Wo put in their slots, and x read. -/
def fillOwn (d0 : Dev nD) : KProg F (FVec F S1024x768 .bf16) := do
  let wq : Vec F S768x512 .bf16 ← Prog.lift (.load wqM (Rect.unit (s := S768x512) ![0, 0] S768x512.size inb_S768x512_S768x512_0_0).toLoadRect (View.loadsAt_vmem h_S768x512))
  let _ : Vec F S1x768x512 .bf16 ← Prog.lift (.load qB (Rect.unit (s := S8x768x512) (k0_off1 d0) S1x768x512.size (k0_off1_inb d0)).toLoadRect (View.loadsAt_vmem h_S1x768x512))
  Prog.lift (.store qB (Rect.unit (s := S8x768x512) (k0_off1 d0) S1x768x512.size (k0_off1_inb d0))
    (shapeCast S1x768x512 (shapeCast S768x512 wq shapeCasts_S768x512_S768x512) shapeCasts_S768x512_S1x768x512) Finset.univ
    (View.stores_vmem h_S1x768x512 ((Memref.isWhole_whole cc0_scratch0).storeExact_slice rfl _ (k0_off1_packedbf16 d0)) (fun _ => rfl)) (.inl rfl))
  let wo : Vec F S512x768 .bf16 ← Prog.lift (.load woM (Rect.unit (s := S512x768) ![0, 0] S512x768.size inb_S512x768_S512x768_0_0).toLoadRect (View.loadsAt_vmem h_S512x768))
  let _ : Vec F S1x512x768 .bf16 ← Prog.lift (.load oB (Rect.unit (s := S8x512x768) (k0_off2 d0) S1x512x768.size (k0_off2_inb d0)).toLoadRect (View.loadsAt_vmem h_S1x512x768))
  Prog.lift (.store oB (Rect.unit (s := S8x512x768) (k0_off2 d0) S1x512x768.size (k0_off2_inb d0))
    (shapeCast S1x512x768 (shapeCast S512x768 wo shapeCasts_S512x768_S512x768) shapeCasts_S512x768_S1x512x768) Finset.univ
    (View.stores_vmem h_S1x512x768 ((Memref.isWhole_whole cc0_scratch1).storeExact_slice rfl _ (k0_off2_packedbf16 d0)) (fun _ => rfl)) (.inl rfl))
  let x : Vec F S2x512x768 .bf16 ← Prog.lift (.load xM (Rect.unit (s := S2x512x768) ![0, 0, 0] S2x512x768.size inb_S2x512x768_S2x512x768_0_0_0).toLoadRect (View.loadsAt_vmem h_S2x512x768))
  pure (rowsV x)

/-- The first hop, -/
def hopFirst (d0 : Dev nD) (x : FVec F S1024x768 .bf16) : KProg F PUnit := do
  hopSendQ d0 ⟨k0_dev3 d0, k0_dev3_lt d0⟩ 0
  compute d0 0 x
  hopSendO d0 ⟨k0_dev4 d0, k0_dev4_lt d0⟩ 0
  accFirst d0 0 0
  accFirst d0 0 1
/-- one in the middle, its two copies' destinations given, -/
def hopMid (d0 dq dO : Dev nD) (h : Fin 8) (x : FVec F S1024x768 .bf16) : KProg F PUnit := do
  hopWaitQ cc0_scratch6 d0 h
  hopSendQ d0 dq h
  compute d0 h x
  hopWaitO cc0_scratch6 d0 h
  hopSendO d0 dO h
  accNext d0 h 0
  accNext d0 h 1
/-- and the last. -/
def hopLast (d0 : Dev nD) (x : FVec F S1024x768 .bf16) : KProg F PUnit := do
  hopWaitQ cc0_scratch6 d0 7
  compute d0 7 x
  hopWaitO cc0_scratch6 d0 7
  accNext d0 7 0
  accNext d0 7 1

/-- The hops in the middle, each with its copies' destinations. -/
def midList (d0 : Dev nD) : List (Fin 8 × Dev nD × Dev nD) :=
  [(1, ⟨k0_dev5 d0, k0_dev5_lt d0⟩, ⟨k0_dev6 d0, k0_dev6_lt d0⟩), (2, ⟨k0_dev7 d0, k0_dev7_lt d0⟩, ⟨k0_dev8 d0, k0_dev8_lt d0⟩),
   (3, ⟨k0_dev9 d0, k0_dev9_lt d0⟩, ⟨k0_dev10 d0, k0_dev10_lt d0⟩), (4, ⟨k0_dev11 d0, k0_dev11_lt d0⟩, ⟨k0_dev12 d0, k0_dev12_lt d0⟩),
   (5, ⟨k0_dev13 d0, k0_dev13_lt d0⟩, ⟨k0_dev14 d0, k0_dev14_lt d0⟩), (6, ⟨k0_dev15 d0, k0_dev15_lt d0⟩, ⟨k0_dev16 d0, k0_dev16_lt d0⟩)]
def hopsMid (d0 : Dev nD) (x : FVec F S1024x768 .bf16) : List (Fin 8 × Dev nD × Dev nD) → KProg F PUnit
  | [] => pure PUnit.unit
  | h :: hs => do
    hopMid d0 h.2.1 h.2.2 h.1 x
    hopsMid d0 x hs

/-- The waits for the copies this device has started. -/
def drain (d0 : Dev nD) : List (Fin 8) → KProg F PUnit
  | [] => pure PUnit.unit
  | h :: hs => do
    hopWaitQ cc0_scratch5 d0 h
    hopWaitO cc0_scratch5 d0 h
    drain d0 hs

/-- The body on device `d0`. -/
def bodyOn (d0 : Dev nD) : KProg F PUnit := do
  meet d0
  fillMask d0
  let x ← fillOwn d0
  hopFirst d0 x
  hopsMid d0 x (midList d0)
  hopLast d0 x
  drain d0 [0, 1, 2, 3, 4, 5, 6]

/-- The body. -/
def body : KProg F PUnit := Prog.lift .deviceId >>= bodyOn

set_option maxRecDepth 100000 in
/-- The printed body is this one. -/
theorem body_eq (t : Fin cfg0.N) : Gen.bodyAt0 (F := F) t = body (F := F) := by
  sl_kernel_rfl

end Cert.KernelIdeal.Ring

end
-- ==== Proof.Ring.Sched.lean ====
/- The ring's protocol: who the neighbours are, which block lies in which slot, what each semaphore's unit hands over, what
   each device owes at launch and in which order the semaphores may be waited on. -/
module

public import proofs.«01_k».proof.Proof.Ring.Body
public import Idealize.ShloMosaic.Lib.Rounds
public import Idealize.ShloMosaic.Lib.Rounds.Family
public import Idealize.ShloMosaic.Lib.Ring

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Facts₀ Cert.KernelIdeal.Facts

variable {F : FTy → Type}

/-! ## The resource algebra: the pipeline library's copy and the protocol's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The ring -/

/-- The next device, to which a device copies, and the one before, from which its blocks come. -/
def nxt (c : Dev nD) : Dev nD := ⟨(c.val + 1) % 8, Nat.mod_lt _ (by decide)⟩
def prv (c : Dev nD) : Dev nD := ⟨(c.val + 7) % 8, Nat.mod_lt _ (by decide)⟩
/-- The slot in which a device works at hop `h`. -/
def sl (c : Dev nD) (h : Fin 8) : Fin 8 := ⟨((c.val + 8) - h.val) % 8, Nat.mod_lt _ (by decide)⟩

theorem prv_nxt : ∀ c : Dev nD, prv (nxt c) = c := by decide
theorem nxt_prv : ∀ c : Dev nD, nxt (prv c) = c := by decide
theorem sl_invol : ∀ (c : Dev nD) (h : Fin 8), sl c (sl c h) = h := by decide
theorem sl_zero : ∀ c : Dev nD, sl c 0 = c := by decide
theorem sl_seven : ∀ c : Dev nD, sl c 7 = nxt c := by decide
theorem sl_nxt : ∀ (c : Dev nD) (h : Fin 8), sl (nxt c) (h + 1) = sl c h := by decide
/-- Hops and slots correspond. -/
def slE (c : Dev nD) : Fin 8 ≃ Fin 8 := ⟨sl c, sl c, sl_invol c, sl_invol c⟩

/-- The hops after which a device copies its slots on. -/
abbrev sends : List (Fin 8) := [0, 1, 2, 3, 4, 5, 6]

/-! ## A resource for each hop of a list -/

/-- `Φ` at each hop of the list. -/
def forHops (Φ : Fin 8 → sProp 𝕄) : List (Fin 8) → sProp 𝕄
  | [] => iprop(emp)
  | h :: hs => iprop(Φ h ∗ forHops Φ hs)

theorem forHops_cons (Φ : Fin 8 → sProp 𝕄) (h : Fin 8) (hs : List (Fin 8)) : forHops Φ (h :: hs) = iprop(Φ h ∗ forHops Φ hs) := rfl

instance forHops_storable (Φ : Fin 8 → sProp 𝕄) [∀ h, BI.Storable (upEmb : UEmb _ 𝕄) (Φ h)] (hs : List (Fin 8)) :
    BI.Storable (upEmb : UEmb _ 𝕄) (forHops Φ hs) := by
  induction hs with
  | nil => unfold forHops; infer_instance
  | cons h hs ih => unfold forHops; infer_instance

/-- Two of them are one of both. -/
theorem forHops_sep (Φ Ψ : Fin 8 → sProp 𝕄) (hs : List (Fin 8)) :
    iprop(forHops Φ hs ∗ forHops Ψ hs) ⊢ forHops (fun h => iprop(Φ h ∗ Ψ h)) hs := by
  induction hs with
  | nil => unfold forHops; iintro -; iempintro
  | cons h hs ih =>
    unfold forHops
    iintro ⟨⟨H1, H2⟩, H3, H4⟩
    isplitl [H1 H3]
    · isplitl [H1] <;> iassumption
    iapply ih
    isplitl [H2] <;> iassumption

theorem forHops_mono {Φ Ψ : Fin 8 → sProp 𝕄} {hs : List (Fin 8)} (hm : ∀ h ∈ hs, Φ h ⊢ Ψ h) : forHops Φ hs ⊢ forHops Ψ hs := by
  induction hs with
  | nil => exact .rfl
  | cons h hs ih =>
    unfold forHops
    iintro ⟨H1, H2⟩
    isplitl [H1]
    · iapply (hm h (List.mem_cons_self ..)); iexact H1
    iapply (ih fun h' hh => hm h' (List.mem_cons_of_mem _ hh)); iexact H2

/-- All eight hops: the first, those in the middle and the last. -/
theorem forHops_univ (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

/-! ## The slots -/

/-- Slot `j`'s offset is in bounds, of Wq's blocks and of Wo's. -/
theorem qIn : ∀ (j : Fin 8) (a), (![j.val, 0, 0] : Fin 3 → ℕ) a + S1x768x512.size a ≤ S8x768x512.size a := by decide
theorem oIn : ∀ (j : Fin 8) (a), (![j.val, 0, 0] : Fin 3 → ℕ) a + S1x512x768.size a ≤ S8x512x768.size a := by decide

/-- Slot `j`'s elements. -/
abbrev qRect (j : Fin 8) : Rect S8x768x512 := Rect.unit (s := S8x768x512) ![j.val, 0, 0] S1x768x512.size (qIn j)
abbrev oRect (j : Fin 8) : Rect S8x512x768 := Rect.unit (s := S8x512x768) ![j.val, 0, 0] S1x512x768.size (oIn j)
def qSet (j : Fin 8) : Finset S8x768x512.Idx := (qRect j).set
def oSet (j : Fin 8) : Finset S8x512x768.Idx := (oRect j).set

theorem qSlot_set (j : Fin 8) (ho) : (qSlot ![j.val, 0, 0] ho).view.set = qSet j := by
  refine (View.set_reshape (v := (View.whole cc0_scratch0).slice _) _).trans ?_
  rw [View.set_slice_whole]; rfl
theorem oSlot_set (j : Fin 8) (ho) : (oSlot ![j.val, 0, 0] ho).view.set = oSet j := by
  refine (View.set_reshape (v := (View.whole cc0_scratch1).slice _) _).trans ?_
  rw [View.set_slice_whole]; rfl

theorem qSet_disjoint (j j' : Fin 8) (h : j ≠ j') : Disjoint (qSet j) (qSet j') :=
  Idealize.ShloMosaic.Ring.lead_disjoint (s := S8x768x512) (NB := 8) 0 1 (fun j => ![j.val, 0, 0]) S1x768x512.size qIn (fun b => (Nat.one_mul _).symm) rfl j j' h
theorem oSet_disjoint (j j' : Fin 8) (h : j ≠ j') : Disjoint (oSet j) (oSet j') :=
  Idealize.ShloMosaic.Ring.lead_disjoint (s := S8x512x768) (NB := 8) 0 1 (fun j => ![j.val, 0, 0]) S1x512x768.size oIn (fun b => (Nat.one_mul _).symm) rfl j j' h
theorem qSet_cover : Finset.univ.biUnion qSet = Finset.univ :=
  Idealize.ShloMosaic.Ring.lead_cover (s := S8x768x512) (NB := 8) 0 1 (fun j => ![j.val, 0, 0]) S1x768x512.size qIn (fun b => (Nat.one_mul _).symm) (by decide) rfl (by decide) rfl
theorem oSet_cover : Finset.univ.biUnion oSet = Finset.univ :=
  Idealize.ShloMosaic.Ring.lead_cover (s := S8x512x768) (NB := 8) 0 1 (fun j => ![j.val, 0, 0]) S1x512x768.size oIn (fun b => (Nat.one_mul _).symm) (by decide) rfl (by decide) rfl

/-- A copy's credit, of a block of Wq and of one of Wo. -/
def NQ : ℕ := (qSlot ![(0 : Fin 8).val, 0, 0] (qIn 0)).view.dmaCredit
def NO : ℕ := (oSlot ![(0 : Fin 8).val, 0, 0] (oIn 0)).view.dmaCredit
/-- … of buffer `s`. -/
def NB (s : Fin 2) : ℕ := if s = 0 then NQ else NO
theorem NB_pos (s : Fin 2) : 0 < NB s := by
  unfold NB NQ NO; split <;> exact View.dmaCredit_pos _ (by decide)
theorem qCredit (o : Fin 3 → ℕ) (ho) : (qSlot o ho).view.dmaCredit = NB 0 := rfl
theorem oCredit (o : Fin 3 → ℕ) (ho) : (oSlot o ho).view.dmaCredit = NB 1 := rfl

/-! ## The cells -/

/-- The copies' semaphores: `(0, s, j)` is the one that a start of slot `j`'s copy of buffer `s` completes on the device it
    leaves, `(1, s, j)` the one on the device it reaches. -/
abbrev KI : Type := Fin 2 × Fin 2 × Fin 8

def osem (k : KI) : SemLoc sig := .dma ⟨6 + 16 * k.1.val + 8 * k.2.1.val + k.2.2.val, by
  obtain ⟨⟨a, ha⟩, ⟨b, hb⟩, ⟨d, hd⟩⟩ := k; show 6 + 16 * a + 8 * b + d < 38; omega⟩
/-- Which of them a semaphore is. -/
def code : SemLoc sig → Option KI
  | .reg _ => none
  | .dma i => if 6 ≤ i.val then some (Fin.ofNat 2 ((i.val - 6) / 16), Fin.ofNat 2 ((i.val - 6) / 8), Fin.ofNat 8 (i.val - 6)) else none

theorem code_osem : ∀ k : KI, code (osem k) = some k := by decide
theorem osem_inj : Function.Injective osem := fun a b h => Option.some.inj (by rw [← code_osem a, ← code_osem b, h])

abbrev barCell (c : Dev nD) : GSem nD τ sig := ((c : Thread nD τ), .reg barS)
abbrev kCell (c : Dev nD) (k : KI) : GSem nD τ sig := ((c : Thread nD τ), osem k)

/-- The semaphores that the program names. -/
theorem semAt_snd : ∀ (s : Fin 2) (j : Fin 8) (h), SemLoc.dma (semAt cc0_scratch5 ![s.val, j.val] h) = osem (0, s, j) := by decide
theorem semAt_rcv : ∀ (s : Fin 2) (j : Fin 8) (h), SemLoc.dma (semAt cc0_scratch6 ![s.val, j.val] h) = osem (1, s, j) := by decide

/-- Those that are used: on a device every slot but the next device's is copied on, every slot but its own is received. -/
def live (c : Dev nD) (k : KI) : Prop := if k.1 = 0 then k.2.2 ≠ nxt c else k.2.2 ≠ c
instance (c : Dev nD) (k : KI) : Decidable (live c k) := by unfold live; infer_instance

theorem live_snd : ∀ (c : Dev nD) (s : Fin 2), ∀ h ∈ sends, live c (0, s, sl c h) := by decide
theorem live_rcv : ∀ (c : Dev nD) (s : Fin 2) (h : Fin 8), h ≠ 0 → live c (1, s, sl c h) := by decide
theorem live_nxt : ∀ (c : Dev nD) (s : Fin 2), ∀ h ∈ sends, live (nxt c) (1, s, sl c h) := by decide

/-! ## What the slots hold -/

section Contents

variable (wq : Dev nD → Vec F S768x512 .bf16) (wo : Dev nD → Vec F S512x768 .bf16)

/-- The eight blocks of Wq, as a device's buffer holds them, and the eight of Wo. -/
def qAll : Vec F S8x768x512 .bf16 := fun i =>
  shapeCast S1x768x512 (shapeCast S768x512 (wq (i 0)) shapeCasts_S768x512_S768x512) shapeCasts_S768x512_S1x768x512 (fun a => match a with | 0 => (0 : Fin 1) | 1 => i 1 | 2 => i 2)
def oAll : Vec F S8x512x768 .bf16 := fun i =>
  shapeCast S1x512x768 (shapeCast S512x768 (wo (i 0)) shapeCasts_S512x768_S512x768) shapeCasts_S512x768_S1x512x768 (fun a => match a with | 0 => (0 : Fin 1) | 1 => i 1 | 2 => i 2)

end Contents

/-- Slot `j` of Wq's blocks on device `c`, at a share of contents, and slot `j` of Wo's. -/
def qPt (c : Dev nD) (j : Fin 8) (q : PosShare TreeShare) (f : Vec F S8x768x512 .bf16) : sProp 𝕄 :=
  ((c : Thread nD τ).loc cc0_scratch0) ↦[qSet j]{q} f
def oPt (c : Dev nD) (j : Fin 8) (q : PosShare TreeShare) (f : Vec F S8x512x768 .bf16) : sProp 𝕄 :=
  ((c : Thread nD τ).loc cc0_scratch1) ↦[oSet j]{q} f

instance qPt_storable (c : Dev nD) (j q) (f : Vec F S8x768x512 .bf16) : BI.Storable (upEmb : UEmb _ 𝕄) (qPt c j q f) := by unfold qPt; infer_instance
instance oPt_storable (c : Dev nD) (j q) (f : Vec F S8x512x768 .bf16) : BI.Storable (upEmb : UEmb _ 𝕄) (oPt c j q f) := by unfold oPt; infer_instance

/-- Slot `j` of buffer `s` on device `c` at anything. -/
def slotAny (c : Dev nD) (s : Fin 2) (j : Fin 8) : sProp 𝕄 := if s = 0 then iprop(∃ f, qPt c j fullShare f) else iprop(∃ f, oPt c j fullShare f)

instance slotAny_storable (c : Dev nD) (s j) : BI.Storable (upEmb : UEmb _ 𝕄) (slotAny (F := F) c s j) := by
  unfold slotAny; split <;> infer_instance

/-- What the next device's signal hands a device: the next device's slots that this device will fill, and that their
    semaphores are in their round. -/
def barOne (c : Dev nD) (h : Fin 8) : sProp 𝕄 :=
  iprop(slotAny (nxt c) 0 (sl c h) ∗ slotAny (nxt c) 1 (sl c h) ∗ reached ER (kCell (nxt c) (1, 0, sl c h)) 0 ∗ reached ER (kCell (nxt c) (1, 1, sl c h)) 0)
instance barOne_storable (c : Dev nD) (h : Fin 8) : BI.Storable (upEmb : UEmb _ 𝕄) (barOne (F := F) c h) := by unfold barOne; infer_instance
def barPay (c : Dev nD) : sProp 𝕄 := forHops (barOne c) sends
instance barPay_storable (c : Dev nD) : BI.Storable (upEmb : UEmb _ 𝕄) (barPay (F := F) c) := by unfold barPay; infer_instance

variable (wq : Dev nD → Vec F S768x512 .bf16) (wo : Dev nD → Vec F S512x768 .bf16)

/-- Slot `j` of buffer `s` on device `c` holding device `j`'s block. -/
def slotAt (c : Dev nD) (s : Fin 2) (j : Fin 8) (q : PosShare TreeShare) : sProp 𝕄 := if s = 0 then qPt c j q (qAll wq) else oPt c j q (oAll wo)
instance slotAt_storable (c : Dev nD) (s j q) : BI.Storable (upEmb : UEmb _ 𝕄) (slotAt (F := F) wq wo c s j q) := by
  unfold slotAt; split <;> infer_instance

theorem slotAt_share (c : Dev nD) (s : Fin 2) (j : Fin 8) :
    slotAt wq wo c s j fullShare ⊣⊢ (iprop(slotAt wq wo c s j (fullShare : PosShare TreeShare).left ∗ slotAt wq wo c s j (fullShare : PosShare TreeShare).right) : sProp 𝕄) := by
  unfold slotAt qPt oPt; split <;> exact pointsTo_share (PosShare.mem_left_op_right _)

/-- What a copy's completion hands over: where it leaves, the half of the slot that it was lent; where it arrives, the slot. -/
def dmaPay (c : Dev nD) (k : KI) : sProp 𝕄 :=
  if k.1 = 0 then slotAt wq wo c k.2.1 k.2.2 (fullShare : PosShare TreeShare).left else slotAt wq wo c k.2.1 k.2.2 fullShare
instance dmaPay_storable (c : Dev nD) (k) : BI.Storable (upEmb : UEmb _ 𝕄) (dmaPay (F := F) wq wo c k) := by
  unfold dmaPay; split <;> infer_instance

/-! ## The schedule -/

/-- One round. A barrier cell has two duties of a unit: `true` from the next device, `false` from the one before. A used copy
    semaphore has the duty `false` of its block's credit. -/
def ringRd : Rounds.Schedule (GSem nD τ sig) Bool 𝕄 where
  duties g r := if r = 0 then (match code g.2 with | some k => if live g.1.1 k then {false} else ∅ | none => Finset.univ) else ∅
  unitless _ := False
  amount g _ _ := match code g.2 with | some k => NB k.2.1 | none => 1
  payload g _ d := match code g.2 with | some k => dmaPay wq wo g.1.1 k | none => if d then barPay g.1.1 else iprop(emp)
  amount_pos g _ _ _ := by
    cases code g.2 with
    | none => exact Nat.one_pos
    | some k => exact NB_pos _

instance ringRd_payload_storable (g : GSem nD τ sig) (r : ℕ) (d : Bool) :
    BI.Storable (upEmb : UEmb _ 𝕄) ((ringRd (F := F) wq wo).payload g r d) := by
  dsimp only [ringRd]
  cases code g.2 with
  | none => dsimp only; split <;> infer_instance
  | some k => dsimp only; infer_instance

section Sched
variable (c : Dev nD)

theorem duties_bar : (ringRd (F := F) wq wo).duties (barCell c) 0 = Finset.univ := rfl
theorem duties_dma (k : KI) : (ringRd (F := F) wq wo).duties (kCell c k) 0 = if live c k then {false} else ∅ := by
  dsimp only [ringRd]; rw [if_pos rfl, code_osem]
theorem duties_live {k : KI} (h : live c k) : (ringRd (F := F) wq wo).duties (kCell c k) 0 = {false} := by rw [duties_dma, if_pos h]
theorem duties_later (g : GSem nD τ sig) : ∀ r, 1 ≤ r → (ringRd (F := F) wq wo).duties g r = ∅ :=
  fun r hr => by dsimp only [ringRd]; rw [if_neg fun h => by omega]
/-- The round after which a copy semaphore has no duty left. -/
def endRound (k : KI) : ℕ := if live c k then 1 else 0
theorem duties_end (k : KI) : ∀ r, endRound c k ≤ r → (ringRd (F := F) wq wo).duties (kCell c k) r = ∅ := fun r hr => by
  unfold endRound at hr
  by_cases h : live c k
  · rw [if_pos h] at hr; exact duties_later wq wo _ r hr
  · rcases Nat.eq_zero_or_pos r with rfl | h'
    · rw [duties_dma, if_neg h]
    · exact duties_later wq wo _ r h'

theorem amount_bar (d : Bool) : (ringRd (F := F) wq wo).amount (barCell c) 0 d = 1 := rfl
theorem amount_dma (k : KI) (d : Bool) : (ringRd (F := F) wq wo).amount (kCell c k) 0 d = NB k.2.1 := by dsimp only [ringRd]; rw [code_osem]

theorem expect_bar : (ringRd (F := F) wq wo).expect (barCell c) 0 = 2 := by
  unfold Schedule.expect Schedule.amountOf
  rw [duties_bar, Finset.sum_congr rfl fun d _ => amount_bar wq wo c d, Finset.sum_const, Finset.card_univ, Fintype.card_bool, smul_eq_mul]
theorem expect_dma {k : KI} (h : live c k) : (ringRd (F := F) wq wo).expect (kCell c k) 0 = NB k.2.1 := by
  unfold Schedule.expect Schedule.amountOf; rw [duties_live wq wo c h, Finset.sum_singleton, amount_dma]

theorem payload_bar_true : (ringRd (F := F) wq wo).payload (barCell c) 0 true = barPay c := rfl
theorem payload_bar_false : (ringRd (F := F) wq wo).payload (barCell c) 0 false = iprop(emp) := rfl
theorem payload_dma (k : KI) (d : Bool) : (ringRd (F := F) wq wo).payload (kCell c k) 0 d = dmaPay wq wo c k := by dsimp only [ringRd]; rw [code_osem]

/-- The rest of a barrier cell's round: nothing and the next device's payload. -/
theorem rest_bar : bigSep ((ringRd (F := F) wq wo).duties (barCell c) 0 \ ∅) (fun d => (ringRd (F := F) wq wo).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
theorem rest_dma {k : KI} (h : live c k) :
    bigSep ((ringRd (F := F) wq wo).duties (kCell c k) 0 \ ∅) (fun d => (ringRd (F := F) wq wo).payload (kCell c k) 0 d) = dmaPay wq wo c k := by
  rw [Finset.sdiff_empty, duties_live wq wo c h, bigSep_singleton, payload_dma]

end Sched

/-! ## What each core owes at launch; the levels -/

/-- The credits of the copies after the hops of a list, which a device owes the next one. -/
def owedOf (c : Dev nD) : List (Fin 8) → CellTallies nD τ sig Unit
  | [] => 0
  | h :: hs => owedOf c hs + tallyAt (kCell (nxt c) (1, 1, sl c h)) () (NB 1) + tallyAt (kCell (nxt c) (1, 0, sl c h)) () (NB 0)
/-- At launch: all the copies' credits, and a unit to both neighbours' barriers. -/
def O₁ (c : Dev nD) : CellTallies nD τ sig Unit := owedOf c sends + tallyAt (barCell (nxt c)) () 1
def O₀ (c : Dev nD) : CellTallies nD τ sig Unit := O₁ c + tallyAt (barCell (prv c)) () 1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- A received slot's hop and buffer give its level; a barrier is below all of them, everything else below that. -/
def lvK (c : Dev nD) (k : KI) : ℕ := if k.1 = 0 then 0 else 2 * (sl c k.2.2).val + k.2.1.val
def lv (g : GSem nD τ sig) (_ : Unit) : ℕ := match g.2 with | .reg _ => 1 | .dma i => match code (.dma i) with | some k => lvK g.1.1 k | none => 0

theorem lv_bar (c : Dev nD) (u : Unit) : lv (barCell c) u = 1 := rfl
theorem lv_dma (c : Dev nD) (k : KI) (u : Unit) : lv (kCell c k) u = lvK c k := by
  show (match code (osem k) with | some k => lvK c k | none => 0) = _
  rw [code_osem]
theorem lvK_rcv (c : Dev nD) (s : Fin 2) (h : Fin 8) : lvK c (1, s, sl c h) = 2 * h.val + s.val := by
  unfold lvK; rw [if_neg (show ¬(1 : Fin 2) = 0 by decide), sl_invol]
theorem lvK_nxt : ∀ (c : Dev nD) (s : Fin 2), ∀ h ∈ sends, lvK (nxt c) (1, s, sl c h) = 2 * (h.val + 1) + s.val := by decide

/-- Whatever is owed of a list's copies is one of the next device's receive semaphores for a hop of the list. -/
theorem owedOf_pos {c : Dev nD} {hs : List (Fin 8)} {g : GSem nD τ sig} {u : Unit} (hp : 0 < owedOf c hs g u) :
    ∃ h ∈ hs, ∃ s : Fin 2, g = kCell (nxt c) (1, s, sl c h) := by
  induction hs with
  | nil => exact absurd hp (Nat.lt_irrefl 0)
  | cons h hs ih =>
    unfold owedOf at hp
    rw [Pi.add_apply, Finsupp.add_apply, Pi.add_apply, Finsupp.add_apply, tallyAt_apply, tallyAt_apply] at hp
    by_cases h1 : g = kCell (nxt c) (1, 1, sl c h) ∧ u = ()
    · exact ⟨h, List.mem_cons_self .., 1, h1.1⟩
    by_cases h0 : g = kCell (nxt c) (1, 0, sl c h) ∧ u = ()
    · exact ⟨h, List.mem_cons_self .., 0, h0.1⟩
    rw [if_neg h1, if_neg h0] at hp; simp only [Nat.add_zero] at hp
    obtain ⟨h', hm, s, hg⟩ := ih hp
    exact ⟨h', List.mem_cons_of_mem _ hm, s, hg⟩

/-- A device that owes copies of later hops (or of this hop's second buffer) may wait on what is below them. -/
theorem mayWait_of (c : Dev nD) (sm : SemLoc sig) (n : ℕ) (hn : lv ((c : Thread nD τ), sm) () ≤ n) (O : CellTallies nD τ sig Unit)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-- The copies of a list of hops are above the level `2 h + 1` of a hop not after any of them. -/
theorem owedOf_above {c : Dev nD} {hs : List (Fin 8)} {h : Fin 8} (hmem : ∀ h' ∈ hs, h' ∈ sends) (hle : ∀ h' ∈ hs, h ≤ h') (g : GSem nD τ sig) (u : Unit)
    (hp : 0 < owedOf c hs g u) : g.1.2 = .tc ∧ 2 * h.val + 1 < lv g u := by
  obtain ⟨h', hm, s, rfl⟩ := owedOf_pos hp
  refine ⟨rfl, ?_⟩
  rw [lv_dma, lvK_nxt c s h' (hmem h' hm)]
  have := Fin.le_def.mp (hle h' hm)
  omega

theorem O₀_pos {c : Dev nD} {g : GSem nD τ sig} {u : Unit} (h : 0 < O₀ c g u) : g.1.2 = .tc ∧ 0 < lv g u := by
  unfold O₀ O₁ at h
  rw [Pi.add_apply, Finsupp.add_apply, Pi.add_apply, Finsupp.add_apply, tallyAt_apply, tallyAt_apply] at h
  by_cases h1 : g = barCell (nxt c) ∧ u = ()
  · rw [h1.1]; exact ⟨rfl, Nat.one_pos⟩
  by_cases h2 : g = barCell (prv c) ∧ u = ()
  · rw [h2.1]; exact ⟨rfl, Nat.one_pos⟩
  rw [if_neg h1, if_neg h2] at h; simp only [Nat.add_zero] at h
  have := owedOf_above (h := 0) (fun _ h => h) (fun _ _ => Fin.zero_le _) g u h
  exact ⟨this.1, by omega⟩

end Cert.KernelIdeal.Ring

end
-- ==== Proof.Ring.Values.lean ====
/- What the kernel's loads read and its stores leave, as functions of the blocks: the heads' results piece by piece, the
   result batch by batch, V with its column of ones. -/
module

public import Idealize.ShloMosaic.Lib.Pipeline.ValueKit.Geometry
public import proofs.«01_k».proof.Proof.Ring.Sched

@[expose] public section

noncomputable section

namespace Cert.KernelIdeal.Ring

open Idealize.SL Idealize.SL.Sem Idealize.ShloMosaic Idealize.ShloMosaic.TcCoe
open Cert.KernelIdeal.Facts₀ Cert.KernelIdeal.Facts

variable {F : FTy → Type}

/-! ## One access to a whole buffer at unit stride -/

section Access

variable {Val : EltTy → Type} (b : Ref sig .tc) {off size : Fin b.ty.shape.rank → ℕ} (inb : ∀ a, off a + size a ≤ b.ty.shape.size a)

/-- A load's entry is the buffer's at the offset plus the entry's place. -/
theorem readAt_unit (f : b.ty.Contents Val) (y : (Rect.unit (s := b.ty.shape) off size inb).shape.Idx) (i : b.ty.shape.Idx)
    (hi : ∀ a, (i a).val = off a + (y a).val) :
    (Memref.whole b : Memref sig .tc _ _ _).view.readAt Val (Rect.unit off size inb).toLoadRect f y = f i := by
  show f ((Rect.unit off size inb).emb y) = f i
  congr 1
  funext a
  exact Fin.ext ((ValueKit.rect_emb_unit_val off size inb y a).trans (hi a).symm)

/-- A store's entry under the rectangle is the stored one, -/
theorem write_unit_in (f : b.ty.Contents Val) (w : (Rect.unit (s := b.ty.shape) off size inb).shape.Idx → Val b.ty.elt)
    (y : (Rect.unit (s := b.ty.shape) off size inb).shape.Idx) (i : b.ty.shape.Idx) (hi : ∀ a, (i a).val = off a + (y a).val) :
    ((Memref.whole b : Memref sig .tc _ _ _).access (Rect.unit off size inb)).write Val f w Finset.univ i = w y := by
  have e : i = ((Memref.whole b : Memref sig .tc _ _ _).access (Rect.unit off size inb)).emb y := by
    show i = (Rect.unit off size inb).emb y
    funext a
    exact Fin.ext ((hi a).trans (ValueKit.rect_emb_unit_val off size inb y a).symm)
  rw [e]
  exact View.write_emb_of_mem (v := (Memref.whole b : Memref sig .tc _ _ _).access (Rect.unit off size inb)) f w (Finset.mem_univ y)

/-- and outside it what was there. -/
theorem write_unit_out (f : b.ty.Contents Val) (w : (Rect.unit (s := b.ty.shape) off size inb).shape.Idx → Val b.ty.elt)
    (i : b.ty.shape.Idx) (a : Fin b.ty.shape.rank) (ha : (i a).val < off a ∨ off a + size a ≤ (i a).val) :
    ((Memref.whole b : Memref sig .tc _ _ _).access (Rect.unit off size inb)).write Val f w Finset.univ i = f i := by
  refine View.write_of_not_mem (v := (Memref.whole b : Memref sig .tc _ _ _).access (Rect.unit off size inb)) f w _ ?_
  intro hi
  have hi' : i ∈ (Rect.unit off size inb).set := by
    have : i ∈ (((View.whole b).slice (Rect.unit off size inb)).set) := hi
    rwa [View.set_slice_whole] at this
  have := Rect.mem_set_unit.mp hi' a
  omega

end Access

/-! ## K and V: one head's rows -/

theorem kvIn : ∀ (b : Fin 2) (j n : Fin 8) (a), (![b.val, 8 * j.val + n.val, 0, 0] : Fin 4 → ℕ) a + S1x1x512x64.size a ≤ S2x64x512x64.size a := by decide

/-- Head `8 j + n` of batch `b`. -/
def kvAt (f : Vec F S2x64x512x64 .bf16) (b : Fin 2) (j n : Fin 8) : Vec F S1x1x512x64 .bf16 := fun y =>
  f (fun a => match a with | 0 => b | 1 => (⟨8 * j.val + n.val, by have := j.isLt; have := n.isLt; omega⟩ : Fin 64) | 2 => y 2 | 3 => y 3)

theorem kv_idx (b : Fin 2) (j n : Fin 8) (y : S1x1x512x64.Idx) (a : Fin 4) :
    ((fun a => match a with | 0 => b | 1 => (⟨8 * j.val + n.val, by have := j.isLt; have := n.isLt; omega⟩ : Fin 64) | 2 => y 2 | 3 => y 3 : S2x64x512x64.Idx) a).val
      = (![b.val, 8 * j.val + n.val, 0, 0] : Fin 4 → ℕ) a + (y a).val := by
  have h0 : (y 0).val = 0 := Nat.lt_one_iff.mp (y 0).isLt
  have h1 : (y 1).val = 0 := Nat.lt_one_iff.mp (y 1).isLt
  match a with
  | 0 => show b.val = b.val + (y 0).val; omega
  | 1 => show 8 * j.val + n.val = 8 * j.val + n.val + (y 1).val; omega
  | 2 => show (y 2).val = 0 + (y 2).val; omega
  | 3 => show (y 3).val = 0 + (y 3).val; omega

theorem read_k (f : Vec F S2x64x512x64 .bf16) (b : Fin 2) (j n : Fin 8) (ho) :
    kM.view.readAt (Elt F) (Rect.unit (s := S2x64x512x64) ![b.val, 8 * j.val + n.val, 0, 0] S1x1x512x64.size ho).toLoadRect f = kvAt f b j n :=
  funext fun y => readAt_unit cc0_stg2_0 ho f y _ (kv_idx b j n y)
theorem read_v (f : Vec F S2x64x512x64 .bf16) (b : Fin 2) (j n : Fin 8) (ho) :
    vM.view.readAt (Elt F) (Rect.unit (s := S2x64x512x64) ![b.val, 8 * j.val + n.val, 0, 0] S1x1x512x64.size ho).toLoadRect f = kvAt f b j n :=
  funext fun y => readAt_unit cc0_stg3_0 ho f y _ (kv_idx b j n y)

/-! ## The slots' blocks -/

section Blocks

variable (wq : Dev nD → Vec F S768x512 .bf16) (wo : Dev nD → Vec F S512x768 .bf16)

/-- Device `j`'s block as a load of its slot reads it. -/
def wqV (j : Fin 8) : Vec F S1x768x512 .bf16 := shapeCast S1x768x512 (shapeCast S768x512 (wq j) shapeCasts_S768x512_S768x512) shapeCasts_S768x512_S1x768x512
def woV (j : Fin 8) : Vec F S1x512x768 .bf16 := shapeCast S1x512x768 (shapeCast S512x768 (wo j) shapeCasts_S512x768_S512x768) shapeCasts_S512x768_S1x512x768

theorem qAll_at (j : Fin 8) (y : S1x768x512.Idx) (i : S8x768x512.Idx) (hi : ∀ a, (i a).val = (![j.val, 0, 0] : Fin 3 → ℕ) a + (y a).val) :
    qAll wq i = wqV wq j y := by
  have h0 : (y 0).val = 0 := Nat.lt_one_iff.mp (y 0).isLt
  have e0 : i 0 = j := Fin.ext ((hi 0).trans (by show j.val + (y 0).val = j.val; omega))
  unfold qAll wqV
  rw [e0]
  congr 1
  funext a
  match a with
  | 0 => exact Fin.ext h0.symm
  | 1 => exact Fin.ext ((hi 1).trans (Nat.zero_add _))
  | 2 => exact Fin.ext ((hi 2).trans (Nat.zero_add _))
theorem oAll_at (j : Fin 8) (y : S1x512x768.Idx) (i : S8x512x768.Idx) (hi : ∀ a, (i a).val = (![j.val, 0, 0] : Fin 3 → ℕ) a + (y a).val) :
    oAll wo i = woV wo j y := by
  have h0 : (y 0).val = 0 := Nat.lt_one_iff.mp (y 0).isLt
  have e0 : i 0 = j := Fin.ext ((hi 0).trans (by show j.val + (y 0).val = j.val; omega))
  unfold oAll woV
  rw [e0]
  congr 1
  funext a
  match a with
  | 0 => exact Fin.ext h0.symm
  | 1 => exact Fin.ext ((hi 1).trans (Nat.zero_add _))
  | 2 => exact Fin.ext ((hi 2).trans (Nat.zero_add _))

theorem read_q (j : Fin 8) (ho) :
    qB.view.readAt (Elt F) (Rect.unit (s := S8x768x512) ![j.val, 0, 0] S1x768x512.size ho).toLoadRect (qAll wq) = wqV wq j :=
  funext fun y => (readAt_unit cc0_scratch0 ho (qAll wq) y _ (ValueKit.rect_emb_unit_val _ _ ho y)).trans
    (qAll_at wq j y _ (ValueKit.rect_emb_unit_val _ _ ho y))
theorem read_o (j : Fin 8) (ho) :
    oB.view.readAt (Elt F) (Rect.unit (s := S8x512x768) ![j.val, 0, 0] S1x512x768.size ho).toLoadRect (oAll wo) = woV wo j :=
  funext fun y => (readAt_unit cc0_scratch1 ho (oAll wo) y _ (ValueKit.rect_emb_unit_val _ _ ho y)).trans
    (oAll_at wo j y _ (ValueKit.rect_emb_unit_val _ _ ho y))

/-- A device's own block put in its slot. -/
theorem write_q (j : Fin 8) (f : Vec F S8x768x512 .bf16) (ho) (i) (hi : i ∈ qSet j) :
    (qB.access (Rect.unit (s := S8x768x512) ![j.val, 0, 0] S1x768x512.size ho)).write (Elt F) f (wqV wq j) Finset.univ i = qAll wq i := by
  obtain ⟨y, -, rfl⟩ := Finset.mem_map.mp ((Rect.map_emb_univ _).symm ▸ hi : i ∈ Finset.univ.map (qRect j).emb)
  exact (write_unit_in cc0_scratch0 ho f (wqV wq j) y _ (ValueKit.rect_emb_unit_val _ _ ho y)).trans
    (qAll_at wq j y _ (ValueKit.rect_emb_unit_val _ _ ho y)).symm
theorem write_o (j : Fin 8) (f : Vec F S8x512x768 .bf16) (ho) (i) (hi : i ∈ oSet j) :
    (oB.access (Rect.unit (s := S8x512x768) ![j.val, 0, 0] S1x512x768.size ho)).write (Elt F) f (woV wo j) Finset.univ i = oAll wo i := by
  obtain ⟨y, -, rfl⟩ := Finset.mem_map.mp ((Rect.map_emb_univ _).symm ▸ hi : i ∈ Finset.univ.map (oRect j).emb)
  exact (write_unit_in cc0_scratch1 ho f (woV wo j) y _ (ValueKit.rect_emb_unit_val _ _ ho y)).trans
    (oAll_at wo j y _ (ValueKit.rect_emb_unit_val _ _ ho y)).symm

end Blocks

/-! ## The heads' results, piece by piece -/

/-- The pieces of one hop's heads' results. -/
abbrev Pieces (F : FTy → Type) : Type := Fin 2 → Fin 8 → Vec F S1x512x64 .bf16

/-- Where an entry lies in its piece. -/
def ctxY (i : S2x512x512.Idx) : S1x512x64.Idx := fun a => match a with | 0 => (0 : Fin 1) | 1 => i 1 | 2 => (⟨(i 2).val % 64, Nat.mod_lt _ (by decide)⟩ : Fin 64)
/-- The buffer made of them. -/
def ctxOf (p : Pieces F) : Vec F S2x512x512 .bf16 := fun i =>
  p (i 0) (⟨(i 2).val / 64, Nat.div_lt_of_lt_mul (i 2).isLt⟩ : Fin 8) (ctxY i)
/-- One piece replaced. -/
def upd (p : Pieces F) (b : Fin 2) (n : Fin 8) (v : Vec F S1x512x64 .bf16) : Pieces F := fun b' n' => if b' = b ∧ n' = n then v else p b' n'

/-- Any contents are made of pieces. -/
theorem ctxOf_surj (g : Vec F S2x512x512 .bf16) : ∃ p, g = ctxOf p := by
  refine ⟨fun b n y => g (fun a => match a with | 0 => b | 1 => y 1 | 2 => (⟨64 * n.val + (y 2).val, by have h1 := n.isLt; have h2 : (y 2).val < 64 := (y 2).isLt; show _ < 512; omega⟩ : Fin 512)), ?_⟩
  funext i
  unfold ctxOf
  congr 1
  funext a
  match a with
  | 0 => rfl
  | 1 => rfl
  | 2 => exact Fin.ext (Nat.div_add_mod (i 2).val 64).symm

/-- A head's store replaces its piece. -/
theorem write_ctx (p : Pieces F) (b : Fin 2) (n : Fin 8) (v : Vec F S1x512x64 .bf16) (ho) :
    (ctxM.access (Rect.unit (s := S2x512x512) ![b.val, 0, 64 * n.val] S1x512x64.size ho)).write (Elt F) (ctxOf p) v Finset.univ = ctxOf (upd p b n v) := by
  refine funext fun (i : S2x512x512.Idx) => ?_
  have hdm := Nat.div_add_mod (i 2).val 64
  have hml : (i 2).val % 64 < 64 := Nat.mod_lt _ (by decide)
  by_cases hb : i 0 = b
  · by_cases hn : (i 2).val / 64 = n.val
    · refine (write_unit_in cc0_scratch3 ho (ctxOf p) v (ctxY i) i ?_).trans ?_
      · intro a
        match a with
        | 0 => show (i 0).val = b.val + 0; rw [hb]; rfl
        | 1 => exact (Nat.zero_add _).symm
        | 2 => show (i 2).val = 64 * n.val + (i 2).val % 64; omega
      · unfold ctxOf upd; rw [if_pos ⟨hb, Fin.ext hn⟩]
    · refine (write_unit_out cc0_scratch3 ho (ctxOf p) v i 2 ?_).trans ?_
      · show (i 2).val < 64 * n.val ∨ 64 * n.val + 64 ≤ (i 2).val; omega
      · unfold ctxOf upd; rw [if_neg fun h => hn (congrArg Fin.val h.2)]
  · refine (write_unit_out cc0_scratch3 ho (ctxOf p) v i 0 ?_).trans ?_
    · have : (i 0).val ≠ b.val := fun h => hb (Fin.ext h)
      show (i 0).val < b.val ∨ b.val + 1 ≤ (i 0).val; omega
    · unfold ctxOf upd; rw [if_neg fun h => hb h.1]

/-- One batch's row of the buffer, as a load reads it. -/
def rowOf (p : Pieces F) (b : Fin 2) : Vec F S1x512x512 .bf16 := fun y =>
  p b (⟨(y 2).val / 64, Nat.div_lt_of_lt_mul (y 2).isLt⟩ : Fin 8) (fun a => match a with | 0 => (0 : Fin 1) | 1 => y 1 | 2 => (⟨(y 2).val % 64, Nat.mod_lt _ (by decide)⟩ : Fin 64))
theorem read_ctx (p : Pieces F) (b : Fin 2) (ho) :
    ctxM.view.readAt (Elt F) (Rect.unit (s := S2x512x512) ![b.val, 0, 0] S1x512x512.size ho).toLoadRect (ctxOf p) = rowOf p b :=
  funext fun y => readAt_unit cc0_scratch3 ho (ctxOf p) y (fun a => match a with | 0 => b | 1 => y 1 | 2 => y 2) fun a => by
    have h0 : (y 0).val = 0 := Nat.lt_one_iff.mp (y 0).isLt
    match a with
    | 0 => show b.val = b.val + (y 0).val; omega
    | 1 => exact (Nat.zero_add _).symm
    | 2 => exact (Nat.zero_add _).symm

/-! ## The result, batch by batch -/

/-- Where an entry lies in its batch. -/
def outY (i : S2x512x768.Idx) : S1x512x768.Idx := fun a => match a with | 0 => (0 : Fin 1) | 1 => i 1 | 2 => i 2
/-- The buffer made of both batches' parts. -/
def glue (p : Fin 2 → Vec F S1x512x768 .f32) : Vec F S2x512x768 .f32 := fun i => p (i 0) (outY i)

theorem glue_surj (g : Vec F S2x512x768 .f32) : ∃ p, g = glue p := by
  refine ⟨fun b y => g (fun a => match a with | 0 => b | 1 => y 1 | 2 => y 2), ?_⟩
  funext i
  unfold glue
  congr 1
  funext a
  match a with
  | 0 => rfl
  | 1 => rfl
  | 2 => rfl

theorem read_out (p : Fin 2 → Vec F S1x512x768 .f32) (b : Fin 2) (ho) :
    outM.view.readAt (Elt F) (Rect.unit (s := S2x512x768) ![b.val, 0, 0] S1x512x768.size ho).toLoadRect (glue p) = p b :=
  funext fun y => (readAt_unit cc0_stg5_0 ho (glue p) y (fun a => match a with | 0 => b | 1 => y 1 | 2 => y 2) fun a => by
    have h0 : (y 0).val = 0 := Nat.lt_one_iff.mp (y 0).isLt
    match a with
    | 0 => show b.val = b.val + (y 0).val; omega
    | 1 => exact (Nat.zero_add _).symm
    | 2 => exact (Nat.zero_add _).symm).trans (by
      unfold glue
      congr 1
      funext a
      match a with
      | 0 => exact Fin.ext (Nat.lt_one_iff.mp (y 0).isLt).symm
      | 1 => rfl
      | 2 => rfl)

theorem write_out (p : Fin 2 → Vec F S1x512x768 .f32) (b : Fin 2) (v : Vec F S1x512x768 .f32) (ho) :
    (outM.access (Rect.unit (s := S2x512x768) ![b.val, 0, 0] S1x512x768.size ho)).write (Elt F) (glue p) v Finset.univ = glue (Function.update p b v) := by
  refine funext fun (i : S2x512x768.Idx) => ?_
  by_cases hb : i 0 = b
  · refine (write_unit_in cc0_stg5_0 ho (glue p) v (outY i) i ?_).trans ?_
    · intro a
      match a with
      | 0 => show (i 0).val = b.val + 0; rw [hb]; rfl
      | 1 => exact (Nat.zero_add _).symm
      | 2 => exact (Nat.zero_add _).symm
    · subst hb; exact (congrFun (Function.update_self (β := fun _ : Fin 2 => Vec F S1x512x768 .f32) (i 0) v p) (outY i)).symm
  · refine (write_unit_out cc0_stg5_0 ho (glue p) v i 0 ?_).trans ?_
    · have : (i 0).val ≠ b.val := fun h => hb (Fin.ext h)
      show (i 0).val < b.val ∨ b.val + 1 ≤ (i 0).val; omega
    · exact congrFun (Function.update_of_ne hb v p).symm _

/-! ## V beside the column of ones -/

section Ones

variable [FloatOps F] [Named F]

/-- The bias and the ones as they are put in place. -/
def biasC (c : Dev nD) : Vec F S512x512 .f32 := shapeCast S512x512 (biasV c) shapeCasts_S512x512_S512x512
def onesC : Vec F S512x128 .bf16 := shapeCast S512x128 onesV shapeCasts_S512x128_S512x128

/-- The lanes beside V hold the column of ones. -/
def OnesOk (g : Vec F S512x128 .bf16) : Prop := ∀ i : S512x128.Idx, 64 ≤ (i 1).val → g i = onesC i
/-- Where an entry of the left lanes lies in V. -/
def vaY (i : S512x128.Idx) (h : (i 1).val < 64) : S512x64.Idx := fun a => match a with | 0 => i 0 | 1 => (⟨(i 1).val, h⟩ : Fin 64)
/-- V beside it. -/
def vaC (v : FVec F S512x64 .bf16) : Vec F S512x128 .bf16 := fun i => if h : (i 1).val < 64 then v (vaY i h) else onesC i

theorem vaC_ok (v : FVec F S512x64 .bf16) : OnesOk (vaC v) := fun i hi => by unfold vaC; rw [dif_neg (Nat.not_lt.mpr hi)]
theorem onesC_ok : OnesOk (onesC : Vec F S512x128 .bf16) := fun _ _ => rfl

theorem write_va (g : Vec F S512x128 .bf16) (hg : OnesOk g) (v : FVec F S512x64 .bf16) (ho) :
    (vaM.access (Rect.unit (s := S512x128) ![0, 0] S512x64.size ho)).write (Elt F) g v Finset.univ = vaC v := by
  refine funext fun (i : S512x128.Idx) => ?_
  by_cases h : (i 1).val < 64
  · refine (write_unit_in cc0_scratch4 ho g v (vaY i h) i ?_).trans ?_
    · intro a
      match a with
      | 0 => exact (Nat.zero_add _).symm
      | 1 => exact (Nat.zero_add _).symm
    · unfold vaC; rw [dif_pos h]
  · refine (write_unit_out cc0_scratch4 ho g v i 1 (Or.inr ?_)).trans ?_
    · show 0 + 64 ≤ (i 1).val; omega
    · unfold vaC; rw [dif_neg h]; exact hg i (Nat.not_lt.mp h)

/-! ## Whole buffers -/

theorem zero2 : (![0, 0] : Fin 2 → ℕ) = fun _ => 0 := by decide
theorem zero3 : (![0, 0, 0] : Fin 3 → ℕ) = fun _ => 0 := by decide

theorem read_bias (f : Vec F S512x512 .f32) (ho) : biasM.view.readAt (Elt F) (Rect.unit (s := S512x512) ![0, 0] S512x512.size ho).toLoadRect f = f :=
  Memref.readAt_unit_zero (Elt F) cc0_scratch2 zero2 ho f
theorem read_va (f : Vec F S512x128 .bf16) (ho) : vaM.view.readAt (Elt F) (Rect.unit (s := S512x128) ![0, 0] S512x128.size ho).toLoadRect f = f :=
  Memref.readAt_unit_zero (Elt F) cc0_scratch4 zero2 ho f
theorem read_wq (f : Vec F S768x512 .bf16) (ho) : wqM.view.readAt (Elt F) (Rect.unit (s := S768x512) ![0, 0] S768x512.size ho).toLoadRect f = f :=
  Memref.readAt_unit_zero (Elt F) cc0_stg1_0 zero2 ho f
theorem read_wo (f : Vec F S512x768 .bf16) (ho) : woM.view.readAt (Elt F) (Rect.unit (s := S512x768) ![0, 0] S512x768.size ho).toLoadRect f = f :=
  Memref.readAt_unit_zero (Elt F) cc0_stg4_0 zero2 ho f
theorem read_x (f : Vec F S2x512x768 .bf16) (ho) : xM.view.readAt (Elt F) (Rect.unit (s := S2x512x768) ![0, 0, 0] S2x512x768.size ho).toLoadRect f = f :=
  Memref.readAt_unit_zero (Elt F) cc0_stg0_0 zero3 ho f
theorem write_bias (f w : Vec F S512x512 .f32) (ho) : (biasM.access (Rect.unit (s := S512x512) ![0, 0] S512x512.size ho)).write (Elt F) f w Finset.univ = w :=
  Memref.write_access_unit_zero_univ (Elt F) cc0_scratch2 zero2 ho f w
theorem write_ones (f w : Vec F S512x128 .bf16) (ho) : (vaM.access (Rect.unit (s := S512x128) ![0, 0] S512x128.size ho)).write (Elt F) f w Finset.univ = w :=
  Memref.write_access_unit_zero_univ (Elt F) cc0_scratch4 zero2 ho f w

/-! ## The heads and the sums -/

/-- One head's result: from the rows of x and a block of Wq the queries, from K and V the head's rows. -/
def headV (c : Dev nD) (x : FVec F S1024x768 .bf16) (w : Vec F S1x768x512 .bf16) (ks vs : Vec F S2x64x512x64 .bf16) (j : Fin 8) (b : Fin 2) (n : Fin 8) : Vec F S1x512x64 .bf16 :=
  normV (weightV (extractStridedSlice S512x64 ![512 * b.val, 64 * n.val] (projV x w) (headSlices b n)) (kvAt ks b j n) (biasC c)) (vaC (vPartV (kvAt vs b j n)))

/-- Some of a hop's pieces computed: those of the batch's listed heads. -/
def updAll (hv : Pieces F) (b : Fin 2) : List (Fin 8) → Pieces F → Pieces F
  | [], p => p
  | n :: ns, p => updAll hv b ns (upd p b n (hv b n))

/-- All of them computed. -/
theorem updAll_all (hv p : Pieces F) :
    updAll hv 1 [0, 1, 2, 3, 4, 5, 6, 7] (updAll hv 0 [0, 1, 2, 3, 4, 5, 6, 7] p) = hv := by
  funext b n
  fin_cases b <;> fin_cases n <;> rfl

/-- A batch's part of the result after the first hop, and after a later one. -/
def firstV (cx : Vec F S1x512x512 .bf16) (w : Vec F S1x512x768 .bf16) : Vec F S1x512x768 .f32 := shapeCast S1x512x768 (contribV cx w) shapeCasts_S512x768_S1x512x768
def nextV (old : Vec F S1x512x768 .f32) (cx : Vec F S1x512x512 .bf16) (w : Vec F S1x512x768 .bf16) : Vec F S1x512x768 .f32 :=
  shapeCast S1x512x768 (addf (shapeCast S512x768 old shapeCasts_S1x512x768_S512x768) (contribV cx w)) shapeCasts_S512x768_S1x512x768

end Ones

end Cert.KernelIdeal.Ring

end
-- ==== Proof.Ring.Steps.lean ====
/- The body's pieces one by one: what each needs and what it leaves. -/
module

public import proofs.«01_k».proof.Proof.Ring.Values

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Facts₀ Cert.KernelIdeal.Facts

variable {F : FTy → Type} [FloatOps F] [Named F]

local notation "𝕄" => MT nD τ sig Unit (Elt F) ℕ UU ℕ

/-- One summand of a family, the others dropped. -/
theorem bigSep_one {I : Type} [DecidableEq I] {s : Finset I} {i : I} (h : i ∈ s) {Φ : I → sProp 𝕄} : (bigSep s Φ : sProp 𝕄) ⊢ Φ i := bigSep_elim h

/-! ## The cells' invariants -/

def barCells : Finset (GSem nD τ sig) := Finset.univ.image barCell
def dmaCells : Finset (GSem nD τ sig) := Finset.univ.image fun p : Dev nD × KI => kCell p.1 p.2

theorem bar_mem (c : Dev nD) : barCell c ∈ barCells ∪ dmaCells := by
  refine Finset.mem_union_left _ ?_
  unfold barCells
  exact Finset.mem_image_of_mem barCell (Finset.mem_univ c)
theorem dma_mem (c : Dev nD) (k : KI) : kCell c k ∈ barCells ∪ dmaCells := by
  refine Finset.mem_union_right _ ?_
  unfold dmaCells
  exact Finset.mem_image.mpr ⟨(c, k), Finset.mem_univ _, rfl⟩

section Env

variable (wq : Dev nD → Vec F S768x512 .bf16) (wo : Dev nD → Vec F S512x768 .bf16)

/-- Every cell's invariant, at the names `Kn`, and the levels. -/
def env (Kn : GSem nD τ sig → ℕ) : sProp 𝕄 :=
  iprop((bigSep (barCells ∪ dmaCells) fun g => cellInv ER (ringRd wq wo) (Kn g) g) ∗ levAts L lv)
instance env_persistent (Kn : GSem nD τ sig → ℕ) : BI.Persistent (env (F := F) wq wo Kn) := by unfold env; infer_instance

theorem env_bar (Kn : GSem nD τ sig → ℕ) (c : Dev nD) : env (F := F) wq wo Kn ⊢ cellInv ER (ringRd wq wo) (Kn (barCell c)) (barCell c) := by
  unfold env
  iintro ⟨H, -⟩
  iapply (bigSep_one (Φ := fun g => cellInv ER (ringRd wq wo) (Kn g) g) (bar_mem c)); iexact H
theorem env_dma (Kn : GSem nD τ sig → ℕ) (c : Dev nD) (k : KI) : env (F := F) wq wo Kn ⊢ cellInv ER (ringRd wq wo) (Kn (kCell c k)) (kCell c k) := by
  unfold env
  iintro ⟨H, -⟩
  iapply (bigSep_one (Φ := fun g => cellInv ER (ringRd wq wo) (Kn g) g) (dma_mem c k)); iexact H
theorem env_lev (Kn : GSem nD τ sig → ℕ) : env (F := F) wq wo Kn ⊢ levAts L lv := by unfold env; iintro ⟨-, H⟩; iexact H

end Env

/-- A device's program from a state to another. -/
abbrev wpc (c : Dev nD) {α : Type} (p : KProg F α) (Q : α → sProp 𝕄) : sProp 𝕄 := wp frame (wpE (defs₀ (F := F)) 𝒱₀ (c : Thread nD τ) none) Set.univ p Q

/-- What a device owes, whatever waits it has recorded. -/
def owesE (c : Dev nD) (O : CellTallies nD τ sig Unit) : sProp 𝕄 := iprop(∃ W, owes (c : Thread nD τ) O W)

theorem slotAny_q (c : Dev nD) (j : Fin 8) : slotAny (F := F) c 0 j = iprop(∃ f, qPt c j fullShare f) := if_pos rfl
theorem slotAny_o (c : Dev nD) (j : Fin 8) : slotAny (F := F) c 1 j = iprop(∃ f, oPt c j fullShare f) := if_neg (by decide)
theorem slotAt_q (wq : Dev nD → Vec F S768x512 .bf16) (wo : Dev nD → Vec F S512x768 .bf16) (c : Dev nD) (j : Fin 8) (q) :
    slotAt wq wo c 0 j q = qPt c j q (qAll wq) := if_pos rfl
theorem slotAt_o (wq : Dev nD → Vec F S768x512 .bf16) (wo : Dev nD → Vec F S512x768 .bf16) (c : Dev nD) (j : Fin 8) (q) :
    slotAt wq wo c 1 j q = oPt c j q (oAll wo) := if_neg (by decide)

/-! ## The waits and the copies -/

section Comm

variable (wq : Dev nD → Vec F S768x512 .bf16) (wo : Dev nD → Vec F S512x768 .bf16) (Kn : GSem nD τ sig → ℕ) (c : Dev nD)

/-- What a wait on a copy's semaphore needs and gives. -/
def waitPre (k : KI) (O : CellTallies nD τ sig Unit) : sProp 𝕄 :=
  iprop(cred (tallyAt (kCell c k) () (NB k.2.1)) ∗ owesE c O ∗ MayWait (c : Thread nD τ) (osem k) () O ∗ atPos ER (kCell c k) 0 ∅ 0)
def waitPost (k : KI) (O : CellTallies nD τ sig Unit) : sProp 𝕄 :=
  iprop(owesE c O ∗ atPos ER (kCell c k) 1 ∅ 0 ∗ dmaPay wq wo c k)

theorem wait_run {w : TpuEff nD τ sig (Elt F) Λ₀ .tc PUnit} (sm : SemLoc sig) (k : KI)
    (hw : ∀ K : PUnit → sProp 𝕄, wpE (defs₀ (F := F)) 𝒱₀ (c : Thread nD τ) none Set.univ w K = waitSpec (c : Thread nD τ) Set.univ sm (NB k.2.1) K)
    (hsem : sm = osem k) (hl : live c k) (O : CellTallies nD τ sig Unit) (Q : PUnit → sProp 𝕄) :
    iprop(env wq wo Kn ∗ waitPre c k O ∗ (waitPost wq wo c k O -∗ Q ⟨⟩)) ⊢ wpc c (Prog.lift w) Q := by
  subst hsem
  unfold waitPre owesE
  iintro ⟨#HE, ⟨Hc, ⟨%W, HO⟩, HM, Ha⟩, Hk⟩
  ihave #HI := (env_dma wq wo Kn c k) $$ HE
  unfold Prog.lift
  iapply (Rounds.wp_wait_rest_token 𝒱₀ ER (ringRd wq wo) (c : Thread nD τ) none (κ := Kn (kCell c k))
      hw (Set.mem_univ _) () (O := O) (W := W) (R := 0) (m := 0) (T := ∅)
      ((Nat.zero_add _).trans (expect_dma wq wo c hl).symm)) $$ [Hc HO HM Ha]
  · isplitr; · iexact HI
    isplitl [Hc]; · iexact Hc
    isplitl [HO]; · iexact HO
    isplitl [HM]; · iexact HM
    iexact Ha
  iintro ⟨HO, Ha, -, Hp⟩
  ihave Hp := (Entails.of_eq (rest_dma wq wo c hl)) $$ Hp
  rw [wp_ret]
  imodintro
  iapply Hk
  unfold waitPost owesE
  isplitl [HO]; · iexists _; iexact HO
  isplitl [Ha]; · iexact Ha
  iexact Hp

theorem waitQ_run (A : DmaSems sig S2x8) (o : Fin 3 → ℕ) (ho) (hw) (so : Fin 2 → ℕ) (hso) (k : KI) (hsem : SemLoc.dma (semAt A so hso) = osem k)
    (hk : k.2.1 = 0) (hl : live c k) (O : CellTallies nD τ sig Unit) (Q : PUnit → sProp 𝕄) :
    iprop(env wq wo Kn ∗ waitPre c k O ∗ (waitPost wq wo c k O -∗ Q ⟨⟩)) ⊢ wpc c (waitQ A o ho hw so hso) Q :=
  wait_run wq wo Kn c _ k (by rw [hk, ← qCredit o ho]; exact wpE_waitDma2_eq 𝒱₀ (c : Thread nD τ) none Set.univ) hsem hl O Q
theorem waitO_run (A : DmaSems sig S2x8) (o : Fin 3 → ℕ) (ho) (hw) (so : Fin 2 → ℕ) (hso) (k : KI) (hsem : SemLoc.dma (semAt A so hso) = osem k)
    (hk : k.2.1 = 1) (hl : live c k) (O : CellTallies nD τ sig Unit) (Q : PUnit → sProp 𝕄) :
    iprop(env wq wo Kn ∗ waitPre c k O ∗ (waitPost wq wo c k O -∗ Q ⟨⟩)) ⊢ wpc c (waitO A o ho hw so hso) Q :=
  wait_run wq wo Kn c _ k (by rw [hk, ← oCredit o ho]; exact wpE_waitDma2_eq 𝒱₀ (c : Thread nD τ) none Set.univ) hsem hl O Q

/-- What the start of a copy of slot `j` of buffer `s` needs and gives: the slot here and the next device's, and the two
    duties it pays; half of the slot stays. -/
def sendPre (s : Fin 2) (j : Fin 8) (O : CellTallies nD τ sig Unit) : sProp 𝕄 :=
  iprop(slotAt wq wo c s j fullShare ∗ slotAny (nxt c) s j ∗ owesE c (O + tallyAt (kCell (nxt c) (1, s, j)) () (NB s))
    ∗ dutyTok ER (kCell c (0, s, j)) 0 false ∗ reached ER (kCell c (0, s, j)) 0
    ∗ dutyTok ER (kCell (nxt c) (1, s, j)) 0 false ∗ reached ER (kCell (nxt c) (1, s, j)) 0)
def sendPost (s : Fin 2) (j : Fin 8) (O : CellTallies nD τ sig Unit) : sProp 𝕄 :=
  iprop(cred (tallyAt (kCell c (0, s, j)) () (NB s)) ∗ owesE c O ∗ slotAt wq wo c s j (fullShare : PosShare TreeShare).right)

/-- A copy's start, whichever the buffer: the slot at this device's side and at the other as the copy names it. -/
theorem send_run {s e} (m : Memref sig .tc .vmem s e) (hx : m.view.WordExact) (sS sR : SemLoc sig) (hsem) (f : m.view.ref.ty.Contents (Elt F)) (b : Fin 2) (j : Fin 8)
    (hS : sS = osem (0, b, j)) (hR : sR = osem (1, b, j)) (hN : m.view.amount sR = NB b)
    (hAt : ∀ c' q, slotAt wq wo c' b j q = ((m.view.loc (c' : Thread nD τ)) ↦[m.view.set]{q} f : sProp 𝕄))
    (hAny : ∀ c', slotAny (F := F) c' b j = iprop(∃ g, (m.view.loc (c' : Thread nD τ)) ↦[m.view.set]{fullShare} g))
    (h₁ : live c (0, b, j)) (h₂ : live (nxt c) (1, b, j)) (O : CellTallies nD τ sig Unit) (Q : PUnit → sProp 𝕄) :
    iprop(env wq wo Kn ∗ sendPre wq wo c b j O ∗ (sendPost wq wo c b j O -∗ Q ⟨⟩))
      ⊢ wpc c (Prog.lift (.enqueueDma m (.remote (Dev.tc (nxt c)) m sS) sR hx hx hsem)) Q := by
  subst hS hR
  unfold sendPre owesE
  iintro ⟨#HE, ⟨Hs, Hd, ⟨%W, HO⟩, Ht₁, Hr₁, Ht₂, Hr₂⟩, Hk⟩
  ihave #HI₁ := (env_dma wq wo Kn c (0, b, j)) $$ HE
  ihave #HI₂ := (env_dma wq wo Kn (nxt c) (1, b, j)) $$ HE
  ihave Hs2 := (slotAt_share wq wo c b j).1 $$ Hs
  icases Hs2 with ⟨HsL, HsR⟩
  ihave HsL := (Entails.of_eq (hAt c (fullShare : PosShare TreeShare).left)) $$ HsL
  ihave Hd := (Entails.of_eq (hAny (nxt c))) $$ Hd
  icases Hd with ⟨%fd, Hd⟩
  unfold Prog.lift
  iapply (Rounds.wp_send_pointsTo 𝒱₀ ER (ringRd wq wo) (c : Thread nD τ) none (c' := (nxt c : Thread nD τ)) (src := m) (dst := m)
      (sS := osem (0, b, j)) (sem := osem (1, b, j)) (q := (fullShare : PosShare TreeShare).left) (fs := f)
      (κ₁ := Kn (kCell c (0, b, j))) (κ₂ := Kn (kCell (nxt c) (1, b, j)))
      (r₁ := 0) (r₂ := 0) (d₁ := false) (d₂ := false) (fd := fd)
      (by rw [duties_live wq wo c h₁]; exact Finset.mem_singleton_self _)
      (by rw [duties_live wq wo (nxt c) h₂]; exact Finset.mem_singleton_self _)
      () () (NB b) hN (amount_dma wq wo c _ _) (amount_dma wq wo (nxt c) _ _) O rfl (W := W)
      (by rw [payload_dma]; unfold dmaPay; rw [if_pos rfl]; exact Entails.of_eq (hAt c _).symm)
      (by
        rw [payload_dma]; unfold dmaPay; rw [if_neg one_ne_zero]
        refine Entails.of_eq ((pointsTo_congr fun i hi => ?_).trans (hAt (nxt c) _).symm)
        rw [View.write_read_eq_piecewise]
        exact Finset.piecewise_eq_of_mem _ _ _ hi)) $$ [HsL Hd HO Ht₁ Hr₁ Ht₂ Hr₂]
  · isplitr; · iexact HI₁
    isplitr; · iexact HI₂
    isplitl [HsL]; · iexact HsL
    isplitl [Hd]; · iexact Hd
    isplitl [HO]; · iexact HO
    isplitl [Ht₁]; · iexact Ht₁
    isplitl [Hr₁]; · iexact Hr₁
    isplitl [Ht₂]; · iexact Ht₂
    iexact Hr₂
  iintro ⟨Hc, HO⟩
  rw [wp_ret]
  imodintro
  iapply Hk
  unfold sendPost owesE
  isplitl [Hc]; · iexact Hc
  isplitl [HO]; · iexists _; iexact HO
  iexact HsR

theorem sendQ_run (o : Fin 3 → ℕ) (ho) (hw) (so : Fin 2 → ℕ) (hso) (j : Fin 8) (e : o = ![j.val, 0, 0]) (es : so = ![(0 : Fin 2).val, j.val]) (h₁ : live c (0, 0, j))
    (h₂ : live (nxt c) (1, 0, j)) (O : CellTallies nD τ sig Unit) (Q : PUnit → sProp 𝕄) :
    iprop(env wq wo Kn ∗ sendPre wq wo c 0 j O ∗ (sendPost wq wo c 0 j O -∗ Q ⟨⟩)) ⊢ wpc c (sendQ (nxt c) o ho hw so hso) Q := by
  subst e es
  exact send_run wq wo Kn c (qSlot ![j.val, 0, 0] ho) (qWords hw) _ _ _ (qAll wq) 0 j (semAt_snd 0 j hso) (semAt_rcv 0 j hso) (qCredit _ ho)
    (fun c' q => by rw [slotAt_q]; unfold qPt; rw [← qSlot_set j ho]) (fun c' => by rw [slotAny_q]; unfold qPt; rw [← qSlot_set j ho]; exact rfl) h₁ h₂ O Q
theorem sendO_run (o : Fin 3 → ℕ) (ho) (hw) (so : Fin 2 → ℕ) (hso) (j : Fin 8) (e : o = ![j.val, 0, 0]) (es : so = ![(1 : Fin 2).val, j.val]) (h₁ : live c (0, 1, j))
    (h₂ : live (nxt c) (1, 1, j)) (O : CellTallies nD τ sig Unit) (Q : PUnit → sProp 𝕄) :
    iprop(env wq wo Kn ∗ sendPre wq wo c 1 j O ∗ (sendPost wq wo c 1 j O -∗ Q ⟨⟩)) ⊢ wpc c (sendO (nxt c) o ho hw so hso) Q := by
  subst e es
  exact send_run wq wo Kn c (oSlot ![j.val, 0, 0] ho) (oWords hw) _ _ _ (oAll wo) 1 j (semAt_snd 1 j hso) (semAt_rcv 1 j hso) (oCredit _ ho)
    (fun c' q => by rw [slotAt_o]; unfold oPt; rw [← oSlot_set j ho]) (fun c' => by rw [slotAny_o]; unfold oPt; rw [← oSlot_set j ho]; exact rfl) h₁ h₂ O Q

end Comm

/-! ## The heads and the sums -/

/-- A whole buffer on device `c`. -/
abbrev own (c : Dev nD) {sp s e} (m : Memref sig .tc sp s e) (f : m.view.ref.ty.Contents (Elt F)) : sProp 𝕄 := (m.view.loc (c : Thread nD τ)) ↦{fullShare} f

/-- A load of a buffer that is held whole, and a store to one. -/
theorem load_run (c : Dev nD) {sp : CoreSpace} {s e} {m : Memref sig .tc sp s e} {r : LoadRect s} {hl : m.view.LoadsAt r} {α : Type} {k : (r.shape.Idx → Elt F e) → KProg F α}
    {Q : α → sProp 𝕄} {f : m.view.ref.ty.Contents (Elt F)} :
    own c m f ⊢ iprop((own c m f -∗ wpc c (k (m.view.readAt (Elt F) r f)) Q) -∗ wpc c (.op (.load m r hl) k) Q) :=
  wp_load 𝒱₀ (c : Thread nD τ) none Set.univ (Finset.subset_univ _)
theorem store_run (c : Dev nD) {sp : CoreSpace} {s e} {m : Memref sig .tc sp s e} {r : Rect s} {w : r.shape.Idx → Elt F e} {hx : (m.access r).Stores Finset.univ} {hm}
    {α : Type} {k : PUnit → KProg F α} {Q : α → sProp 𝕄} {f : m.view.ref.ty.Contents (Elt F)} :
    own c m f ⊢ iprop((own c m ((m.access r).write (Elt F) f w Finset.univ) -∗ wpc c (k ⟨⟩) Q) -∗ wpc c (.op (.store m r w Finset.univ hx hm) k) Q) :=
  wp_store (defs := defs₀ (F := F)) 𝒱₀ (c : Thread nD τ) none Set.univ (m := m) (r := r) (w := w) (Mk := Finset.univ) (hx := hx) (hm := hm) (k := k) (Q := Q) (S := Finset.univ) (f := f)
    (Finset.subset_univ _)
/-- The end of a program. -/
theorem ret_run (c : Dev nD) {α : Type} {a : α} {Q : α → sProp 𝕄} : Q a ⊢ wpc c (.ret a) Q := by
  unfold wpc; rw [wp_ret]; iintro H; imodintro; iexact H

section Compute

variable (c : Dev nD) (ks vs : Vec F S2x64x512x64 .bf16)

/-- What the heads work with: K, V, the bias, the ones beside V. -/
def desk : sProp 𝕄 := iprop(own c kM ks ∗ own c vM vs ∗ own c biasM (biasC c) ∗ ∃ g, ⌜OnesOk g⌝ ∗ own c vaM g)

theorem head_run (o : Fin 4 → ℕ) (ho) (b : Fin 2) (j n : Fin 8) (he : o = ![b.val, 8 * j.val + n.val, 0, 0]) (q : FVec F S512x64 .bf16) (p : Pieces F)
    (v : Vec F S1x512x64 .bf16) (hv : normV (weightV q (kvAt ks b j n) (biasC c)) (vaC (vPartV (kvAt vs b j n))) = v) (Q : PUnit → sProp 𝕄) :
    iprop(desk c ks vs ∗ own c ctxM (ctxOf p) ∗ (desk c ks vs ∗ own c ctxM (ctxOf (upd p b n v)) -∗ Q ⟨⟩))
      ⊢ wpc c (head o ho b n q) Q := by
  subst he hv
  simp only [head, Prog.lift, Prog.bind_op, Prog.bind_ret, Prog.pure_eq_ret]
  unfold desk
  iintro ⟨⟨HK, HV, HB, ⟨%g, %hg, HA⟩⟩, HC, Hk⟩
  iapply (load_run c (m := kM)) $$ HK
  iintro HK
  rw [read_k]
  iapply (load_run c (m := biasM)) $$ HB
  iintro HB
  rw [read_bias]
  iapply (load_run c (m := vM)) $$ HV
  iintro HV
  rw [read_v]
  iapply (load_run c (m := vaM)) $$ HA
  iintro HA
  iapply (store_run c (m := vaM)) $$ HA
  iintro HA
  rw [write_va g hg]
  iapply (load_run c (m := vaM)) $$ HA
  iintro HA
  rw [read_va]
  iapply (load_run c (m := ctxM)) $$ HC
  iintro HC
  iapply (store_run c (m := ctxM)) $$ HC
  iintro HC
  rw [write_ctx]
  iapply (ret_run c)
  iapply Hk
  isplitl [HK HV HB HA]
  · isplitl [HK]; · iexact HK
    isplitl [HV]; · iexact HV
    isplitl [HB]; · iexact HB
    iexists (vaC (vPartV (kvAt vs b j n)))
    isplitr; · ipureintro; exact vaC_ok _
    iexact HA
  iexact HC

theorem heads0_run (h : Fin 8) (x : FVec F S1024x768 .bf16) (w : Vec F S1x768x512 .bf16) (ns : List (Fin 8)) (p : Pieces F) (Q : PUnit → sProp 𝕄) :
    iprop(desk c ks vs ∗ own c ctxM (ctxOf p) ∗ (desk c ks vs ∗ own c ctxM (ctxOf (updAll (headV c x w ks vs (sl c h)) 0 ns p)) -∗ Q ⟨⟩))
      ⊢ wpc c (heads0 c h (projV x w) ns) Q := by
  induction ns generalizing p with
  | nil =>
    unfold heads0 updAll
    iintro ⟨HD, HC, Hk⟩
    iapply (ret_run c)
    iapply Hk
    isplitl [HD] <;> iassumption
  | cons n ns ih =>
    unfold heads0 updAll
    simp only [wpc, wp_bind]
    iintro ⟨HD, HC, Hk⟩
    iapply (head_run c ks vs _ _ 0 (sl c h) n (Gen.k0_off6_eq c h n) _ p (headV c x w ks vs (sl c h) 0 n) rfl)
    isplitl [HD]; · iexact HD
    isplitl [HC]; · iexact HC
    iintro ⟨HD, HC⟩
    iapply (ih _)
    isplitl [HD]; · iexact HD
    isplitl [HC]; · iexact HC
    iexact Hk
theorem heads1_run (h : Fin 8) (x : FVec F S1024x768 .bf16) (w : Vec F S1x768x512 .bf16) (ns : List (Fin 8)) (p : Pieces F) (Q : PUnit → sProp 𝕄) :
    iprop(desk c ks vs ∗ own c ctxM (ctxOf p) ∗ (desk c ks vs ∗ own c ctxM (ctxOf (updAll (headV c x w ks vs (sl c h)) 1 ns p)) -∗ Q ⟨⟩))
      ⊢ wpc c (heads1 c h (projV x w) ns) Q := by
  induction ns generalizing p with
  | nil =>
    unfold heads1 updAll
    iintro ⟨HD, HC, Hk⟩
    iapply (ret_run c)
    iapply Hk
    isplitl [HD] <;> iassumption
  | cons n ns ih =>
    unfold heads1 updAll
    simp only [wpc, wp_bind]
    iintro ⟨HD, HC, Hk⟩
    iapply (head_run c ks vs _ _ 1 (sl c h) n (Gen.k0_off7_eq c h n) _ p (headV c x w ks vs (sl c h) 1 n) rfl)
    isplitl [HD]; · iexact HD
    isplitl [HC]; · iexact HC
    iintro ⟨HD, HC⟩
    iapply (ih _)
    isplitl [HD]; · iexact HD
    isplitl [HC]; · iexact HC
    iexact Hk

variable (wq : Dev nD → Vec F S768x512 .bf16) (wo : Dev nD → Vec F S512x768 .bf16)

/-- A load of a slot that holds its block. -/
theorem loadQ_run {o : Fin 3 → ℕ} {ho hl} {j : Fin 8} (he : o = ![j.val, 0, 0]) (q : PosShare TreeShare) {α : Type} {k : Vec F S1x768x512 .bf16 → KProg F α} {Q : α → sProp 𝕄} :
    slotAt wq wo c 0 j q ⊢ iprop((slotAt wq wo c 0 j q -∗ wpc c (k (wqV wq j)) Q)
      -∗ wpc c (.op (.load qB (Rect.unit (s := S8x768x512) o S1x768x512.size ho).toLoadRect hl) k) Q) := by
  subst he
  rw [slotAt_q, ← read_q wq j ho]
  exact wp_load_rect 𝒱₀ (c : Thread nD τ) none Set.univ (m := qB) (r := Rect.unit (s := S8x768x512) ![j.val, 0, 0] S1x768x512.size ho) (S := qSet j) (f := qAll wq)
    (by rw [show (qB.access (Rect.unit (s := S8x768x512) ![j.val, 0, 0] S1x768x512.size ho)).set = qSet j from View.set_slice_whole _ _])
theorem loadO_run {o : Fin 3 → ℕ} {ho hl} {j : Fin 8} (he : o = ![j.val, 0, 0]) (q : PosShare TreeShare) {α : Type} {k : Vec F S1x512x768 .bf16 → KProg F α} {Q : α → sProp 𝕄} :
    slotAt wq wo c 1 j q ⊢ iprop((slotAt wq wo c 1 j q -∗ wpc c (k (woV wo j)) Q)
      -∗ wpc c (.op (.load oB (Rect.unit (s := S8x512x768) o S1x512x768.size ho).toLoadRect hl) k) Q) := by
  subst he
  rw [slotAt_o, ← read_o wo j ho]
  exact wp_load_rect 𝒱₀ (c : Thread nD τ) none Set.univ (m := oB) (r := Rect.unit (s := S8x512x768) ![j.val, 0, 0] S1x512x768.size ho) (S := oSet j) (f := oAll wo)
    (by rw [show (oB.access (Rect.unit (s := S8x512x768) ![j.val, 0, 0] S1x512x768.size ho)).set = oSet j from View.set_slice_whole _ _])

/-- A device's own block put in its slot, after a load of what the slot held. -/
theorem putQ_run {o : Fin 3 → ℕ} {ho hl hx hm} {j : Fin 8} (he : o = ![j.val, 0, 0]) {α : Type} {k : PUnit → KProg F α} {Q : α → sProp 𝕄} :
    slotAny c 0 j ⊢ iprop((slotAt wq wo c 0 j fullShare -∗ wpc c (k ⟨⟩) Q)
      -∗ wpc c (.op (.load qB (Rect.unit (s := S8x768x512) o S1x768x512.size ho).toLoadRect hl) fun _ =>
        .op (.store qB (Rect.unit (s := S8x768x512) o S1x768x512.size ho) (wqV wq j) Finset.univ hx hm) k) Q) := by
  subst he
  have hs : (qB.access (Rect.unit (s := S8x768x512) ![j.val, 0, 0] S1x768x512.size ho)).set = qSet j := View.set_slice_whole _ _
  have e : ∀ f : Vec F S8x768x512 .bf16, qPt c j fullShare ((qB.access (Rect.unit (s := S8x768x512) ![j.val, 0, 0] S1x768x512.size ho)).write (Elt F) f (wqV wq j) Finset.univ) = qPt c j fullShare (qAll wq) :=
    fun f => pointsTo_congr fun i hi => write_q wq j f ho i hi
  have h₂ : ∀ f : Vec F S8x768x512 .bf16, qPt c j fullShare f ⊢ iprop((qPt c j fullShare (qAll wq) -∗ wpc c (k ⟨⟩) Q)
      -∗ wpc c (.op (.store qB (Rect.unit (s := S8x768x512) ![j.val, 0, 0] S1x768x512.size ho) (wqV wq j) Finset.univ hx hm) k) Q) := fun f => by
    rw [← e f]
    exact wp_store (defs := defs₀ (F := F)) 𝒱₀ (c : Thread nD τ) none Set.univ (m := qB) (r := Rect.unit (s := S8x768x512) ![j.val, 0, 0] S1x768x512.size ho) (w := wqV wq j) (Mk := Finset.univ)
      (hx := hx) (hm := hm) (k := k) (Q := Q) (S := qSet j) (f := f) (by rw [View.setOn_univ, hs])
  have h₁ : ∀ f : Vec F S8x768x512 .bf16, ∀ p : KProg F α, qPt c j fullShare f ⊢ iprop((qPt c j fullShare f -∗ wpc c p Q)
      -∗ wpc c (.op (.load qB (Rect.unit (s := S8x768x512) ![j.val, 0, 0] S1x768x512.size ho).toLoadRect hl) fun _ => p) Q) := fun f p =>
    wp_load_rect (defs := defs₀ (F := F)) 𝒱₀ (c : Thread nD τ) none Set.univ (m := qB) (r := Rect.unit (s := S8x768x512) ![j.val, 0, 0] S1x768x512.size ho) (hl := hl) (k := fun _ => p) (Q := Q)
      (S := qSet j) (q := fullShare) (f := f) (by rw [hs])
  rw [slotAny_q, slotAt_q]
  iintro ⟨%f, H⟩ Hk
  iapply (h₁ f _) $$ H
  iintro H
  iapply (h₂ f) $$ H
  iexact Hk
theorem putO_run {o : Fin 3 → ℕ} {ho hl hx hm} {j : Fin 8} (he : o = ![j.val, 0, 0]) {α : Type} {k : PUnit → KProg F α} {Q : α → sProp 𝕄} :
    slotAny c 1 j ⊢ iprop((slotAt wq wo c 1 j fullShare -∗ wpc c (k ⟨⟩) Q)
      -∗ wpc c (.op (.load oB (Rect.unit (s := S8x512x768) o S1x512x768.size ho).toLoadRect hl) fun _ =>
        .op (.store oB (Rect.unit (s := S8x512x768) o S1x512x768.size ho) (woV wo j) Finset.univ hx hm) k) Q) := by
  subst he
  have hs : (oB.access (Rect.unit (s := S8x512x768) ![j.val, 0, 0] S1x512x768.size ho)).set = oSet j := View.set_slice_whole _ _
  have e : ∀ f : Vec F S8x512x768 .bf16, oPt c j fullShare ((oB.access (Rect.unit (s := S8x512x768) ![j.val, 0, 0] S1x512x768.size ho)).write (Elt F) f (woV wo j) Finset.univ) = oPt c j fullShare (oAll wo) :=
    fun f => pointsTo_congr fun i hi => write_o wo j f ho i hi
  have h₂ : ∀ f : Vec F S8x512x768 .bf16, oPt c j fullShare f ⊢ iprop((oPt c j fullShare (oAll wo) -∗ wpc c (k ⟨⟩) Q)
      -∗ wpc c (.op (.store oB (Rect.unit (s := S8x512x768) ![j.val, 0, 0] S1x512x768.size ho) (woV wo j) Finset.univ hx hm) k) Q) := fun f => by
    rw [← e f]
    exact wp_store (defs := defs₀ (F := F)) 𝒱₀ (c : Thread nD τ) none Set.univ (m := oB) (r := Rect.unit (s := S8x512x768) ![j.val, 0, 0] S1x512x768.size ho) (w := woV wo j) (Mk := Finset.univ)
      (hx := hx) (hm := hm) (k := k) (Q := Q) (S := oSet j) (f := f) (by rw [View.setOn_univ, hs])
  have h₁ : ∀ f : Vec F S8x512x768 .bf16, ∀ p : KProg F α, oPt c j fullShare f ⊢ iprop((oPt c j fullShare f -∗ wpc c p Q)
      -∗ wpc c (.op (.load oB (Rect.unit (s := S8x512x768) ![j.val, 0, 0] S1x512x768.size ho).toLoadRect hl) fun _ => p) Q) := fun f p =>
    wp_load_rect (defs := defs₀ (F := F)) 𝒱₀ (c : Thread nD τ) none Set.univ (m := oB) (r := Rect.unit (s := S8x512x768) ![j.val, 0, 0] S1x512x768.size ho) (hl := hl) (k := fun _ => p) (Q := Q)
      (S := oSet j) (q := fullShare) (f := f) (by rw [hs])
  rw [slotAny_o, slotAt_o]
  iintro ⟨%f, H⟩ Hk
  iapply (h₁ f _) $$ H
  iintro H
  iapply (h₂ f) $$ H
  iexact Hk

/-- A hop's heads, whatever the pieces held before. -/
theorem compute_run (h : Fin 8) (q : PosShare TreeShare) (x : FVec F S1024x768 .bf16) (p : Pieces F) (Q : PUnit → sProp 𝕄) :
    iprop(slotAt wq wo c 0 (sl c h) q ∗ desk c ks vs ∗ own c ctxM (ctxOf p)
        ∗ (slotAt wq wo c 0 (sl c h) q ∗ desk c ks vs ∗ own c ctxM (ctxOf (headV c x (wqV wq (sl c h)) ks vs (sl c h))) -∗ Q ⟨⟩))
      ⊢ wpc c (compute c h x) Q := by
  unfold compute
  simp only [Prog.lift, Prog.bind_op, Prog.bind_ret]
  iintro ⟨HS, HD, HC, Hk⟩
  iapply (loadQ_run c wq wo (Gen.k0_off5_eq c h) q) $$ HS
  iintro HS
  simp only [wpc, wp_bind]
  iapply (heads0_run c ks vs h x (wqV wq (sl c h)) [0, 1, 2, 3, 4, 5, 6, 7] p)
  isplitl [HD]; · iexact HD
  isplitl [HC]; · iexact HC
  iintro ⟨HD, HC⟩
  iapply (heads1_run c ks vs h x (wqV wq (sl c h)) [0, 1, 2, 3, 4, 5, 6, 7] _)
  isplitl [HD]; · iexact HD
  isplitl [HC]; · iexact HC
  rw [updAll_all]
  iintro ⟨HD, HC⟩
  iapply Hk
  isplitl [HS]; · iexact HS
  isplitl [HD]; · iexact HD
  iexact HC

/-- A batch's part of the result put down at the first hop, and added to at a later one. -/
theorem accFirst_run (h : Fin 8) (b : Fin 2) (q : PosShare TreeShare) (p : Pieces F) (r : Fin 2 → Vec F S1x512x768 .f32) (Q : PUnit → sProp 𝕄) :
    iprop(slotAt wq wo c 1 (sl c h) q ∗ own c ctxM (ctxOf p) ∗ own c outM (glue r)
        ∗ (slotAt wq wo c 1 (sl c h) q ∗ own c ctxM (ctxOf p) ∗ own c outM (glue (Function.update r b (firstV (rowOf p b) (woV wo (sl c h))))) -∗ Q ⟨⟩))
      ⊢ wpc c (accFirst c h b) Q := by
  simp only [accFirst, Prog.lift, Prog.bind_op, Prog.bind_ret, Prog.pure_eq_ret]
  iintro ⟨HS, HC, HR, Hk⟩
  iapply (load_run c (m := ctxM)) $$ HC
  iintro HC
  rw [read_ctx]
  iapply (loadO_run c wq wo (Gen.k0_off10_eq c h) q) $$ HS
  iintro HS
  iapply (load_run c (m := outM)) $$ HR
  iintro HR
  iapply (store_run c (m := outM)) $$ HR
  iintro HR
  rw [write_out]
  iapply (ret_run c)
  iapply Hk
  isplitl [HS]; · iexact HS
  isplitl [HC]; · iexact HC
  iexact HR
theorem accNext_run (h : Fin 8) (b : Fin 2) (q : PosShare TreeShare) (p : Pieces F) (r : Fin 2 → Vec F S1x512x768 .f32) (Q : PUnit → sProp 𝕄) :
    iprop(slotAt wq wo c 1 (sl c h) q ∗ own c ctxM (ctxOf p) ∗ own c outM (glue r)
        ∗ (slotAt wq wo c 1 (sl c h) q ∗ own c ctxM (ctxOf p) ∗ own c outM (glue (Function.update r b (nextV (r b) (rowOf p b) (woV wo (sl c h))))) -∗ Q ⟨⟩))
      ⊢ wpc c (accNext c h b) Q := by
  simp only [accNext, Prog.lift, Prog.bind_op, Prog.bind_ret, Prog.pure_eq_ret]
  iintro ⟨HS, HC, HR, Hk⟩
  iapply (load_run c (m := ctxM)) $$ HC
  iintro HC
  rw [read_ctx]
  iapply (loadO_run c wq wo (Gen.k0_off10_eq c h) q) $$ HS
  iintro HS
  iapply (load_run c (m := outM)) $$ HR
  iintro HR
  rw [read_out]
  iapply (load_run c (m := outM)) $$ HR
  iintro HR
  iapply (store_run c (m := outM)) $$ HR
  iintro HR
  rw [write_out]
  iapply (ret_run c)
  iapply Hk
  isplitl [HS]; · iexact HS
  isplitl [HC]; · iexact HC
  iexact HR

/-! ## The fillings -/

theorem fillMask_run (fb : Vec F S512x512 .f32) (fv : Vec F S512x128 .bf16) (Q : PUnit → sProp 𝕄) :
    iprop(own c biasM fb ∗ own c vaM fv ∗ (own c biasM (biasC c) ∗ own c vaM onesC -∗ Q ⟨⟩)) ⊢ wpc c (fillMask c) Q := by
  simp only [fillMask, Prog.lift, Prog.bind_op, Prog.bind_ret, Prog.pure_eq_ret]
  iintro ⟨HB, HA, Hk⟩
  iapply (load_run c (m := biasM)) $$ HB
  iintro HB
  iapply (store_run c (m := biasM)) $$ HB
  iintro HB
  rw [write_bias]
  iapply (load_run c (m := vaM)) $$ HA
  iintro HA
  iapply (store_run c (m := vaM)) $$ HA
  iintro HA
  rw [write_ones]
  iapply (ret_run c)
  iapply Hk
  isplitl [HB]; · iexact HB
  iexact HA

theorem fillOwn_run (x : Vec F S2x512x768 .bf16) (Q : FVec F S1024x768 .bf16 → sProp 𝕄) :
    iprop(own c wqM (wq c) ∗ own c woM (wo c) ∗ own c xM x ∗ slotAny c 0 c ∗ slotAny c 1 c
        ∗ (own c wqM (wq c) ∗ own c woM (wo c) ∗ own c xM x ∗ slotAt wq wo c 0 c fullShare ∗ slotAt wq wo c 1 c fullShare -∗ Q (rowsV x)))
      ⊢ wpc c (fillOwn c) Q := by
  simp only [fillOwn, Prog.lift, Prog.bind_op, Prog.bind_ret, Prog.pure_eq_ret]
  iintro ⟨HWq, HWo, HX, HQ, HO, Hk⟩
  iapply (load_run c (m := wqM)) $$ HWq
  iintro HWq
  rw [read_wq]
  iapply (putQ_run c wq wo (Gen.k0_off1_eq c)) $$ HQ
  iintro HQ
  iapply (load_run c (m := woM)) $$ HWo
  iintro HWo
  rw [read_wo]
  iapply (putO_run c wq wo (Gen.k0_off2_eq c)) $$ HO
  iintro HO
  iapply (load_run c (m := xM)) $$ HX
  iintro HX
  rw [read_x]
  iapply (ret_run c)
  iapply Hk
  isplitl [HWq]; · iexact HWq
  isplitl [HWo]; · iexact HWo
  isplitl [HX]; · iexact HX
  isplitl [HQ]; · iexact HQ
  iexact HO

/-! ## The meeting of the neighbours -/

theorem meet_run (Kn : GSem nD τ sig → ℕ) (Q : PUnit → sProp 𝕄) :
    iprop(env wq wo Kn ∗ owesE c (O₀ c) ∗ dutyTok ER (barCell (prv c)) 0 true ∗ dutyTok ER (barCell (nxt c)) 0 false
        ∗ reached ER (barCell (prv c)) 0 ∗ reached ER (barCell (nxt c)) 0 ∗ barPay (prv c) ∗ cred (tallyAt (barCell c) () 2) ∗ atPos ER (barCell c) 0 ∅ 0
        ∗ (owesE c (owedOf c sends) ∗ atPos ER (barCell c) 1 ∅ 0 ∗ barPay c -∗ Q ⟨⟩))
      ⊢ wpc c (meet c) Q := by
  unfold meet
  rw [show (⟨k0_dev1 c, k0_dev1_lt c⟩ : Dev nD) = prv c from Fin.ext (Gen.k0_dev1_eq c), show (⟨k0_dev2 c, k0_dev2_lt c⟩ : Dev nD) = nxt c from Fin.ext (Gen.k0_dev2_eq c)]
  simp only [semSignalWord, semWaitWord, Prog.lift, Prog.bind_op, Prog.bind_ret, Prog.pure_eq_ret]
  unfold owesE
  iintro ⟨#HE, ⟨%W, HO⟩, Ht₁, Ht₂, Hr₁, Hr₂, Hp, Hc, Ha, Hk⟩
  ihave #HI₁ := (env_bar wq wo Kn (prv c)) $$ HE
  ihave #HI₂ := (env_bar wq wo Kn (nxt c)) $$ HE
  ihave #HI := (env_bar wq wo Kn c) $$ HE
  ihave #HL := (env_lev wq wo Kn) $$ HE
  iapply (Rounds.wp_signal 𝒱₀ ER (ringRd wq wo) (c : Thread nD τ) none (dst := (prv c : Thread nD τ)) (sem := barS) (r := 0) (d := true) (κ := Kn (barCell (prv c)))
      (Finset.mem_univ _) (amount_bar wq wo (prv c) true) () (O₁ c) rfl) $$ [HO Ht₁ Hp Hr₁]
  · isplitr; · iexact HI₁
    isplitl [HO]; · iexact HO
    isplitl [Ht₁]; · iexact Ht₁
    isplitl [Hp]; · rw [payload_bar_true]; iexact Hp
    iexact Hr₁
  iintro HO
  iapply (Rounds.wp_signal 𝒱₀ ER (ringRd wq wo) (c : Thread nD τ) none (dst := (nxt c : Thread nD τ)) (sem := barS) (r := 0) (d := false) (κ := Kn (barCell (nxt c)))
      (Finset.mem_univ _) (amount_bar wq wo (nxt c) false) () (owedOf c sends) rfl) $$ [HO Ht₂ Hr₂]
  · isplitr; · iexact HI₂
    isplitl [HO]; · iexact HO
    isplitl [Ht₂]; · iexact Ht₂
    isplitr [Hr₂]; · rw [payload_bar_false]; iempintro
    iexact Hr₂
  iintro HO
  iapply (Rounds.wp_wait_rest_token 𝒱₀ ER (ringRd wq wo) (c : Thread nD τ) none (κ := Kn (barCell c))
      (wpE_semWait_eq 𝒱₀ (c : Thread nD τ) none Set.univ) (Set.mem_univ _) () (O := owedOf c sends) (W := W) (R := 0) (m := 0) (T := ∅)
      ((Nat.zero_add _).trans (expect_bar wq wo c).symm)) $$ [Hc HO Ha]
  · isplitr; · iexact HI
    isplitl [Hc]; · iexact Hc
    isplitl [HO]; · iexact HO
    isplitr
    · iapply (mayWait_of c (.reg barS) 1 (Nat.le_refl 1) (owedOf c sends) (fun g u hp => owedOf_above (h := 0) (fun _ h => h) (fun _ _ => Fin.zero_le _) g u hp))
      iexact HL
    iexact Ha
  iintro ⟨HO, Ha, -, Hp⟩
  ihave Hp := (Entails.of_eq (rest_bar wq wo c)) $$ Hp
  icases Hp with ⟨-, Hp⟩
  iapply (ret_run c)
  iapply Hk
  isplitl [HO]; · iexists _; iexact HO
  isplitl [Ha]; · iexact Ha
  iexact Hp

end Compute

end Cert.KernelIdeal.Ring

end
-- ==== Proof.Ring.Run.lean ====
/- The body on one device: hop by hop, from what it starts with to what it leaves. -/
module

public import proofs.«01_k».proof.Proof.Ring.Steps

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Facts₀ Cert.KernelIdeal.Facts

variable {F : FTy → Type} [FloatOps F] [Named F]

local notation "𝕄" => MT nD τ sig Unit (Elt F) ℕ UU ℕ

/-! ## What a hop uses and leaves -/

/-- The hops in the middle. -/
abbrev mids : List (Fin 8) := [1, 2, 3, 4, 5, 6]

section Hops

variable (wq : Dev nD → Vec F S768x512 .bf16) (wo : Dev nD → Vec F S512x768 .bf16) (Kn : GSem nD τ sig → ℕ) (c : Dev nD)

/-- To receive the hop's block of buffer `s`: the credit and the owner's place. -/
def rcvR (s : Fin 2) (h : Fin 8) : sProp 𝕄 :=
  iprop(cred (tallyAt (kCell c (1, s, sl c h)) () (NB s)) ∗ atPos ER (kCell c (1, s, sl c h)) 0 ∅ 0)
/-- To send it on: the tokens of the two duties, and that this device's semaphore is in its round. -/
def tokR (s : Fin 2) (h : Fin 8) : sProp 𝕄 :=
  iprop(dutyTok ER (kCell c (0, s, sl c h)) 0 false ∗ reached ER (kCell c (0, s, sl c h)) 0 ∗ dutyTok ER (kCell (nxt c) (1, s, sl c h)) 0 false)
/-- … with the next device's slot. -/
def sndR (s : Fin 2) (h : Fin 8) : sProp 𝕄 :=
  iprop(tokR c s h ∗ slotAny (nxt c) s (sl c h) ∗ reached ER (kCell (nxt c) (1, s, sl c h)) 0)
/-- Once it is sent on: the credit of the copy's end, and the half of the slot that stayed. -/
def lentR (s : Fin 2) (h : Fin 8) : sProp 𝕄 :=
  iprop(cred (tallyAt (kCell c (0, s, sl c h)) () (NB s)) ∗ slotAt wq wo c s (sl c h) (fullShare : PosShare TreeShare).right)
/-- Once it is received: the owner's place after the round. -/
def doneR (s : Fin 2) (h : Fin 8) : sProp 𝕄 := atPos ER (kCell c (1, s, sl c h)) 1 ∅ 0
/-- Once the copy's end is waited for: the whole slot, and the owner's place. -/
def backR (s : Fin 2) (h : Fin 8) : sProp 𝕄 :=
  iprop(slotAt wq wo c s (sl c h) fullShare ∗ atPos ER (kCell c (0, s, sl c h)) 1 ∅ 0)

/-! ## The values, hop by hop -/

variable (x : FVec F S1024x768 .bf16) (ks vs : Vec F S2x64x512x64 .bf16)

/-- A hop's heads. -/
def hopHeads (h : Fin 8) : Pieces F := headV c x (wqV wq (sl c h)) ks vs (sl c h)
/-- The result after the first hop, -/
def hop0Out : Fin 2 → Vec F S1x512x768 .f32 := fun b => firstV (rowOf (hopHeads wq c x ks vs 0) b) (woV wo (sl c 0))
/-- after one more, -/
def hopOut (r : Fin 2 → Vec F S1x512x768 .f32) (h : Fin 8) : Fin 2 → Vec F S1x512x768 .f32 := fun b => nextV (r b) (rowOf (hopHeads wq c x ks vs h) b) (woV wo (sl c h))
/-- and after all of them. -/
def bodyOut : Fin 2 → Vec F S1x512x768 .f32 :=
  hopOut wq wo c x ks vs (mids.foldl (hopOut wq wo c x ks vs) (hop0Out wq wo c x ks vs)) 7

theorem update_both (r v : Fin 2 → Vec F S1x512x768 .f32) : Function.update (Function.update r 0 (v 0)) 1 (v 1) = v := by
  funext b; fin_cases b <;> rfl

/-! ## The hops -/

/-- What the hops share: what the heads work with, their results, the result. -/
def table (p : Pieces F) (r : Fin 2 → Vec F S1x512x768 .f32) : sProp 𝕄 := iprop(desk c ks vs ∗ own c ctxM (ctxOf p) ∗ own c outM (glue r))

theorem sem_rcv {so : Fin 2 → ℕ} {hso} {b : Fin 2} {j : Fin 8} (e : so = ![b.val, j.val]) : SemLoc.dma (semAt cc0_scratch6 so hso) = osem (1, b, j) := by
  subst e; exact semAt_rcv b j hso
theorem sem_snd {so : Fin 2 → ℕ} {hso} {b : Fin 2} {j : Fin 8} (e : so = ![b.val, j.val]) : SemLoc.dma (semAt cc0_scratch5 so hso) = osem (0, b, j) := by
  subst e; exact semAt_snd b j hso

/-- Owing only copies of this hop and later ones allows the hop's waits. -/
theorem hop_may (b : Fin 2) (h : Fin 8) (O : CellTallies nD τ sig Unit) (hO : ∀ g u, 0 < O g u → g.1.2 = .tc ∧ 2 * h.val + 1 < lv g u) :
    (levAts L lv : sProp 𝕄) ⊢ MayWait (c : Thread nD τ) (osem (1, b, sl c h)) () O :=
  mayWait_of c (osem (1, b, sl c h)) (2 * h.val + 1) (by rw [show ((c : Thread nD τ), osem (1, b, sl c h)) = kCell c (1, b, sl c h) from rfl, lv_dma, lvK_rcv]; have := b.isLt; omega) O hO

/-- The receipt of a hop's block of Wq, and of Wo. -/
theorem rcvQ_run (h : Fin 8) (h0 : h ≠ 0) (O : CellTallies nD τ sig Unit) (hO : ∀ g u, 0 < O g u → g.1.2 = .tc ∧ 2 * h.val + 1 < lv g u) (Q : PUnit → sProp 𝕄) :
    iprop(env wq wo Kn ∗ rcvR c 0 h ∗ owesE c O ∗ (doneR c 0 h ∗ owesE c O ∗ slotAt wq wo c 0 (sl c h) fullShare -∗ Q ⟨⟩))
      ⊢ wpc c (hopWaitQ cc0_scratch6 c h) Q := by
  unfold rcvR doneR
  iintro ⟨#HE, ⟨Hc, Ha⟩, HO, Hk⟩
  ihave #HL := (env_lev wq wo Kn) $$ HE
  iapply (waitQ_run wq wo Kn c cc0_scratch6 _ _ _ _ _ (1, 0, sl c h) (sem_rcv (Gen.k0_off3_eq c h)) rfl (live_rcv c 0 h h0) O)
  isplitr; · iexact HE
  unfold waitPre
  isplitl [Hc HO Ha]
  · isplitl [Hc]; · iexact Hc
    isplitl [HO]; · iexact HO
    isplitr; · iapply (hop_may c 0 h O hO); iexact HL
    iexact Ha
  unfold waitPost dmaPay
  rw [if_neg one_ne_zero]
  iintro ⟨HO, Ha, Hs⟩
  iapply Hk
  isplitl [Ha]; · iexact Ha
  isplitl [HO]; · iexact HO
  iexact Hs
theorem rcvO_run (h : Fin 8) (h0 : h ≠ 0) (O : CellTallies nD τ sig Unit) (hO : ∀ g u, 0 < O g u → g.1.2 = .tc ∧ 2 * h.val + 1 < lv g u) (Q : PUnit → sProp 𝕄) :
    iprop(env wq wo Kn ∗ rcvR c 1 h ∗ owesE c O ∗ (doneR c 1 h ∗ owesE c O ∗ slotAt wq wo c 1 (sl c h) fullShare -∗ Q ⟨⟩))
      ⊢ wpc c (hopWaitO cc0_scratch6 c h) Q := by
  unfold rcvR doneR
  iintro ⟨#HE, ⟨Hc, Ha⟩, HO, Hk⟩
  ihave #HL := (env_lev wq wo Kn) $$ HE
  iapply (waitO_run wq wo Kn c cc0_scratch6 _ _ _ _ _ (1, 1, sl c h) (sem_rcv (Gen.k0_off8_eq c h)) rfl (live_rcv c 1 h h0) O)
  isplitr; · iexact HE
  unfold waitPre
  isplitl [Hc HO Ha]
  · isplitl [Hc]; · iexact Hc
    isplitl [HO]; · iexact HO
    isplitr; · iapply (hop_may c 1 h O hO); iexact HL
    iexact Ha
  unfold waitPost dmaPay
  rw [if_neg one_ne_zero]
  iintro ⟨HO, Ha, Hs⟩
  iapply Hk
  isplitl [Ha]; · iexact Ha
  isplitl [HO]; · iexact HO
  iexact Hs

/-- The start of a hop's copy of Wq, and of Wo. -/
theorem sndQ_run (h : Fin 8) (hh : h ∈ sends) (O : CellTallies nD τ sig Unit) (Q : PUnit → sProp 𝕄) :
    iprop(env wq wo Kn ∗ slotAt wq wo c 0 (sl c h) fullShare ∗ sndR c 0 h ∗ owesE c (O + tallyAt (kCell (nxt c) (1, 0, sl c h)) () (NB 0))
        ∗ (cred (tallyAt (kCell c (0, 0, sl c h)) () (NB 0)) ∗ owesE c O ∗ slotAt wq wo c 0 (sl c h) (fullShare : PosShare TreeShare).right -∗ Q ⟨⟩))
      ⊢ wpc c (hopSendQ c (nxt c) h) Q := by
  unfold sndR tokR
  iintro ⟨#HE, Hs, ⟨⟨Ht₁, Hr₁, Ht₂⟩, Hd, Hr₂⟩, HO, Hk⟩
  iapply (sendQ_run wq wo Kn c _ _ _ _ _ (sl c h) (Gen.k0_off4_eq c h) (Gen.k0_off3_eq c h) (live_snd c 0 h hh) (live_nxt c 0 h hh) O)
  isplitr; · iexact HE
  unfold sendPre sendPost
  isplitr [Hk]
  · isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iexact Hk
theorem sndO_run (h : Fin 8) (hh : h ∈ sends) (O : CellTallies nD τ sig Unit) (Q : PUnit → sProp 𝕄) :
    iprop(env wq wo Kn ∗ slotAt wq wo c 1 (sl c h) fullShare ∗ sndR c 1 h ∗ owesE c (O + tallyAt (kCell (nxt c) (1, 1, sl c h)) () (NB 1))
        ∗ (cred (tallyAt (kCell c (0, 1, sl c h)) () (NB 1)) ∗ owesE c O ∗ slotAt wq wo c 1 (sl c h) (fullShare : PosShare TreeShare).right -∗ Q ⟨⟩))
      ⊢ wpc c (hopSendO c (nxt c) h) Q := by
  unfold sndR tokR
  iintro ⟨#HE, Hs, ⟨⟨Ht₁, Hr₁, Ht₂⟩, Hd, Hr₂⟩, HO, Hk⟩
  iapply (sendO_run wq wo Kn c _ _ _ _ _ (sl c h) (Gen.k0_off9_eq c h) (Gen.k0_off8_eq c h) (live_snd c 1 h hh) (live_nxt c 1 h hh) O)
  isplitr; · iexact HE
  unfold sendPre sendPost
  isplitr [Hk]
  · isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iexact Hk

theorem owedOf_cons (h : Fin 8) (hs : List (Fin 8)) :
    owedOf c (h :: hs) = owedOf c hs + tallyAt (kCell (nxt c) (1, 1, sl c h)) () (NB 1) + tallyAt (kCell (nxt c) (1, 0, sl c h)) () (NB 0) := rfl

theorem hopFirst_run (hs : List (Fin 8)) (p : Pieces F) (r : Fin 2 → Vec F S1x512x768 .f32) (Q : PUnit → sProp 𝕄) :
    iprop(env wq wo Kn ∗ slotAt wq wo c 0 (sl c 0) fullShare ∗ slotAt wq wo c 1 (sl c 0) fullShare ∗ sndR c 0 0 ∗ sndR c 1 0 ∗ owesE c (owedOf c (0 :: hs)) ∗ table c ks vs p r
        ∗ (lentR wq wo c 0 0 ∗ lentR wq wo c 1 0 ∗ owesE c (owedOf c hs) ∗ table c ks vs (hopHeads wq c x ks vs 0) (hop0Out wq wo c x ks vs) -∗ Q ⟨⟩))
      ⊢ wpc c (hopFirst c x) Q := by
  rw [owedOf_cons]
  unfold hopFirst table
  rw [show (⟨k0_dev3 c, k0_dev3_lt c⟩ : Dev nD) = nxt c from Fin.ext (Gen.k0_dev3_eq c), show (⟨k0_dev4 c, k0_dev4_lt c⟩ : Dev nD) = nxt c from Fin.ext (Gen.k0_dev4_eq c)]
  simp only [wpc, wp_bind]
  iintro ⟨#HE, HQ, HW, HsQ, HsO, HO, ⟨HD, HC, HR⟩, Hk⟩
  iapply (sndQ_run wq wo Kn c 0 (by decide) (owedOf c hs + tallyAt (kCell (nxt c) (1, 1, sl c 0)) () (NB 1)))
  isplitr; · iexact HE
  isplitl [HQ]; · iexact HQ
  isplitl [HsQ]; · iexact HsQ
  isplitl [HO]; · iexact HO
  iintro ⟨HcQ, HO, HQ⟩
  iapply (compute_run c ks vs wq wo 0 _ x p)
  isplitl [HQ]; · iexact HQ
  isplitl [HD]; · iexact HD
  isplitl [HC]; · iexact HC
  iintro ⟨HQ, HD, HC⟩
  iapply (sndO_run wq wo Kn c 0 (by decide) (owedOf c hs))
  isplitr; · iexact HE
  isplitl [HW]; · iexact HW
  isplitl [HsO]; · iexact HsO
  isplitl [HO]; · iexact HO
  iintro ⟨HcO, HO, HW⟩
  iapply (accFirst_run c wq wo 0 0 _ _ r)
  isplitl [HW]; · iexact HW
  isplitl [HC]; · iexact HC
  isplitl [HR]; · iexact HR
  iintro ⟨HW, HC, HR⟩
  iapply (accFirst_run c wq wo 0 1 _ _ _)
  isplitl [HW]; · iexact HW
  isplitl [HC]; · iexact HC
  isplitl [HR]; · iexact HR
  iintro ⟨HW, HC, HR⟩
  iapply Hk
  unfold lentR
  isplitl [HcQ HQ]; · isplitl [HcQ] <;> iassumption
  isplitl [HcO HW]; · isplitl [HcO] <;> iassumption
  isplitl [HO]; · iexact HO
  isplitl [HD]; · iexact HD
  isplitl [HC]; · iexact HC
  rw [← update_both r (hop0Out wq wo c x ks vs)]
  iexact HR

/-- What a hop in the middle uses, and what it leaves. -/
def midPre (h : Fin 8) : sProp 𝕄 := iprop((rcvR c 0 h ∗ rcvR c 1 h) ∗ (sndR c 0 h ∗ sndR c 1 h))
def midPost (h : Fin 8) : sProp 𝕄 := iprop((lentR wq wo c 0 h ∗ lentR wq wo c 1 h) ∗ (doneR c 0 h ∗ doneR c 1 h))

theorem hopMid_run (h : Fin 8) (hs : List (Fin 8)) (h0 : h ≠ 0) (hmem : ∀ h' ∈ h :: hs, h' ∈ sends) (hle : ∀ h' ∈ h :: hs, h ≤ h') (p : Pieces F) (r : Fin 2 → Vec F S1x512x768 .f32)
    (Q : PUnit → sProp 𝕄) :
    iprop(env wq wo Kn ∗ midPre c h ∗ owesE c (owedOf c (h :: hs)) ∗ table c ks vs p r
        ∗ (midPost wq wo c h ∗ owesE c (owedOf c hs) ∗ table c ks vs (hopHeads wq c x ks vs h) (hopOut wq wo c x ks vs r h) -∗ Q ⟨⟩))
      ⊢ wpc c (hopMid c (nxt c) (nxt c) h x) Q := by
  have hO := fun g u => owedOf_above (c := c) hmem hle g u
  have hO' : ∀ g u, 0 < (owedOf c hs + tallyAt (kCell (nxt c) (1, 1, sl c h)) () (NB 1)) g u → g.1.2 = .tc ∧ 2 * h.val + 1 < lv g u := fun g u hp =>
    hO g u (by unfold owedOf; rw [Pi.add_apply, Finsupp.add_apply]; exact Nat.add_pos_left hp _)
  unfold hopMid table midPre
  simp only [wpc, wp_bind]
  iintro ⟨#HE, ⟨⟨HvQ, HvO⟩, HsQ, HsO⟩, HO, ⟨HD, HC, HR⟩, Hk⟩
  iapply (rcvQ_run wq wo Kn c h h0 _ hO)
  isplitr; · iexact HE
  isplitl [HvQ]; · iexact HvQ
  isplitl [HO]; · iexact HO
  iintro ⟨HdQ, HO, HQ⟩
  rw [owedOf_cons]
  iapply (sndQ_run wq wo Kn c h (hmem h (List.mem_cons_self ..)) (owedOf c hs + tallyAt (kCell (nxt c) (1, 1, sl c h)) () (NB 1)))
  isplitr; · iexact HE
  isplitl [HQ]; · iexact HQ
  isplitl [HsQ]; · iexact HsQ
  isplitl [HO]; · iexact HO
  iintro ⟨HcQ, HO, HQ⟩
  iapply (compute_run c ks vs wq wo h _ x p)
  isplitl [HQ]; · iexact HQ
  isplitl [HD]; · iexact HD
  isplitl [HC]; · iexact HC
  iintro ⟨HQ, HD, HC⟩
  iapply (rcvO_run wq wo Kn c h h0 _ hO')
  isplitr; · iexact HE
  isplitl [HvO]; · iexact HvO
  isplitl [HO]; · iexact HO
  iintro ⟨HdO, HO, HW⟩
  iapply (sndO_run wq wo Kn c h (hmem h (List.mem_cons_self ..)) (owedOf c hs))
  isplitr; · iexact HE
  isplitl [HW]; · iexact HW
  isplitl [HsO]; · iexact HsO
  isplitl [HO]; · iexact HO
  iintro ⟨HcO, HO, HW⟩
  iapply (accNext_run c wq wo h 0 _ _ r)
  isplitl [HW]; · iexact HW
  isplitl [HC]; · iexact HC
  isplitl [HR]; · iexact HR
  iintro ⟨HW, HC, HR⟩
  iapply (accNext_run c wq wo h 1 _ _ _)
  isplitl [HW]; · iexact HW
  isplitl [HC]; · iexact HC
  isplitl [HR]; · iexact HR
  iintro ⟨HW, HC, HR⟩
  iapply Hk
  unfold midPost lentR
  isplitl [HcQ HQ HcO HW HdQ HdO]
  · isplitl [HcQ HQ HcO HW]
    · isplitl [HcQ HQ]; · isplitl [HcQ] <;> iassumption
      isplitl [HcO] <;> iassumption
    isplitl [HdQ] <;> iassumption
  isplitl [HO]; · iexact HO
  isplitl [HD]; · iexact HD
  isplitl [HC]; · iexact HC
  rw [← update_both r (hopOut wq wo c x ks vs r h)]
  iexact HR

/-- The hops in the middle, one after another. -/
theorem hopsMid_run (hs : List (Fin 8)) (h0 : ∀ h ∈ hs, h ≠ 0) (hmem : ∀ h ∈ hs, h ∈ sends) (hsort : hs.Pairwise (· ≤ ·)) (p : Pieces F) (r : Fin 2 → Vec F S1x512x768 .f32)
    (Q : PUnit → sProp 𝕄) :
    iprop(env wq wo Kn ∗ forHops (midPre c) hs ∗ owesE c (owedOf c hs) ∗ table c ks vs p r
        ∗ (forHops (midPost wq wo c) hs ∗ owesE c 0 ∗ (∃ p', table c ks vs p' (hs.foldl (hopOut wq wo c x ks vs) r)) -∗ Q ⟨⟩))
      ⊢ wpc c (hopsMid c x (hs.map fun h => (h, nxt c, nxt c))) Q := by
  induction hs generalizing p r with
  | nil =>
    unfold forHops hopsMid owedOf
    iintro ⟨-, -, HO, HT, Hk⟩
    iapply (ret_run c)
    iapply Hk
    isplitr; · iempintro
    isplitl [HO]; · iexact HO
    iexists p; iexact HT
  | cons h hs ih =>
    rw [List.map_cons]
    unfold hopsMid
    rw [forHops_cons, forHops_cons, List.foldl_cons]
    simp only [wpc, wp_bind]
    iintro ⟨#HE, ⟨HM, HMs⟩, HO, HT, Hk⟩
    iapply (hopMid_run wq wo Kn c x ks vs h hs (h0 h (List.mem_cons_self ..)) hmem
      (fun h' hh => (List.mem_cons.mp hh).elim (fun e => e ▸ le_refl _) (fun hm => (List.pairwise_cons.mp hsort).1 h' hm)) p r)
    isplitr; · iexact HE
    isplitl [HM]; · iexact HM
    isplitl [HO]; · iexact HO
    isplitl [HT]; · iexact HT
    iintro ⟨HM, HO, HT⟩
    iapply (ih (fun h' hh => h0 h' (List.mem_cons_of_mem _ hh)) (fun h' hh => hmem h' (List.mem_cons_of_mem _ hh)) (List.pairwise_cons.mp hsort).2 _ _)
    isplitr; · iexact HE
    isplitl [HMs]; · iexact HMs
    isplitl [HO]; · iexact HO
    isplitl [HT]; · iexact HT
    iintro ⟨HMs, HO, HT⟩
    iapply Hk
    isplitl [HM HMs]; · isplitl [HM] <;> iassumption
    isplitl [HO]; · iexact HO
    iexact HT

theorem midList_eq : midList c = mids.map fun h => (h, nxt c, nxt c) := by
  have e : ∀ {n : ℕ} (hn : n < 8), n = (c.val + 1) % 8 → (⟨n, hn⟩ : Dev nD) = nxt c := fun _ h => Fin.ext h
  unfold midList
  rw [e _ (Gen.k0_dev5_eq c), e _ (Gen.k0_dev6_eq c), e _ (Gen.k0_dev7_eq c), e _ (Gen.k0_dev8_eq c), e _ (Gen.k0_dev9_eq c), e _ (Gen.k0_dev10_eq c),
    e _ (Gen.k0_dev11_eq c), e _ (Gen.k0_dev12_eq c), e _ (Gen.k0_dev13_eq c), e _ (Gen.k0_dev14_eq c), e _ (Gen.k0_dev15_eq c), e _ (Gen.k0_dev16_eq c)]
  rfl

theorem hopLast_run (p : Pieces F) (r : Fin 2 → Vec F S1x512x768 .f32) (Q : PUnit → sProp 𝕄) :
    iprop(env wq wo Kn ∗ (rcvR c 0 7 ∗ rcvR c 1 7) ∗ owesE c 0 ∗ table c ks vs p r
        ∗ ((slotAt wq wo c 0 (sl c 7) fullShare ∗ slotAt wq wo c 1 (sl c 7) fullShare) ∗ (doneR c 0 7 ∗ doneR c 1 7) ∗ owesE c 0
            ∗ table c ks vs (hopHeads wq c x ks vs 7) (hopOut wq wo c x ks vs r 7) -∗ Q ⟨⟩))
      ⊢ wpc c (hopLast c x) Q := by
  have hO : ∀ g u, 0 < (0 : CellTallies nD τ sig Unit) g u → g.1.2 = .tc ∧ 2 * (7 : Fin 8).val + 1 < lv g u := fun g u hp => absurd hp (Nat.lt_irrefl 0)
  unfold hopLast table
  simp only [wpc, wp_bind]
  iintro ⟨#HE, ⟨HvQ, HvO⟩, HO, ⟨HD, HC, HR⟩, Hk⟩
  iapply (rcvQ_run wq wo Kn c 7 (by decide) _ hO)
  isplitr; · iexact HE
  isplitl [HvQ]; · iexact HvQ
  isplitl [HO]; · iexact HO
  iintro ⟨HdQ, HO, HQ⟩
  iapply (compute_run c ks vs wq wo 7 _ x p)
  isplitl [HQ]; · iexact HQ
  isplitl [HD]; · iexact HD
  isplitl [HC]; · iexact HC
  iintro ⟨HQ, HD, HC⟩
  iapply (rcvO_run wq wo Kn c 7 (by decide) _ hO)
  isplitr; · iexact HE
  isplitl [HvO]; · iexact HvO
  isplitl [HO]; · iexact HO
  iintro ⟨HdO, HO, HW⟩
  iapply (accNext_run c wq wo 7 0 _ _ r)
  isplitl [HW]; · iexact HW
  isplitl [HC]; · iexact HC
  isplitl [HR]; · iexact HR
  iintro ⟨HW, HC, HR⟩
  iapply (accNext_run c wq wo 7 1 _ _ _)
  isplitl [HW]; · iexact HW
  isplitl [HC]; · iexact HC
  isplitl [HR]; · iexact HR
  iintro ⟨HW, HC, HR⟩
  iapply Hk
  isplitl [HQ HW]; · isplitl [HQ] <;> iassumption
  isplitl [HdQ HdO]; · isplitl [HdQ] <;> iassumption
  isplitl [HO]; · iexact HO
  isplitl [HD]; · iexact HD
  isplitl [HC]; · iexact HC
  rw [← update_both r (hopOut wq wo c x ks vs r 7)]
  iexact HR

/-! ## The waits at the end -/

/-- What the waits for a hop's two copies' ends use, and what they leave. -/
def endPre (h : Fin 8) : sProp 𝕄 := iprop((lentR wq wo c 0 h ∗ lentR wq wo c 1 h) ∗ (atPos ER (kCell c (0, 0, sl c h)) 0 ∅ 0 ∗ atPos ER (kCell c (0, 1, sl c h)) 0 ∅ 0))
def endPost (h : Fin 8) : sProp 𝕄 := iprop(backR wq wo c 0 h ∗ backR wq wo c 1 h)

theorem drain_run (hs : List (Fin 8)) (hmem : ∀ h ∈ hs, h ∈ sends) (Q : PUnit → sProp 𝕄) :
    iprop(env wq wo Kn ∗ forHops (endPre wq wo c) hs ∗ owesE c 0 ∗ (forHops (endPost wq wo c) hs ∗ owesE c 0 -∗ Q ⟨⟩)) ⊢ wpc c (drain c hs) Q := by
  induction hs with
  | nil =>
    unfold forHops drain
    iintro ⟨-, -, HO, Hk⟩
    iapply (ret_run c)
    iapply Hk
    isplitr; · iempintro
    iexact HO
  | cons h hs ih =>
    unfold drain
    rw [forHops_cons, forHops_cons]
    unfold endPre endPost lentR backR
    simp only [wpc, wp_bind]
    iintro ⟨#HE, ⟨⟨⟨⟨HcQ, HQ⟩, HcO, HW⟩, HaQ, HaO⟩, Hs⟩, HO, Hk⟩
    iapply (waitQ_run wq wo Kn c cc0_scratch5 _ _ _ _ _ (0, 0, sl c h) (sem_snd (Gen.k0_off3_eq c h)) rfl (live_snd c 0 h (hmem h (List.mem_cons_self ..))) 0)
    isplitr; · iexact HE
    unfold waitPre
    isplitl [HcQ HO HaQ]
    · isplitl [HcQ]; · iexact HcQ
      isplitl [HO]; · iexact HO
      isplitr; · rw [MayWait_zero]; iempintro
      iexact HaQ
    unfold waitPost dmaPay
    rw [if_pos rfl]
    iintro ⟨HO, HaQ, HQ'⟩
    iapply (waitO_run wq wo Kn c cc0_scratch5 _ _ _ _ _ (0, 1, sl c h) (sem_snd (Gen.k0_off8_eq c h)) rfl (live_snd c 1 h (hmem h (List.mem_cons_self ..))) 0)
    isplitr; · iexact HE
    unfold waitPre
    isplitl [HcO HO HaO]
    · isplitl [HcO]; · iexact HcO
      isplitl [HO]; · iexact HO
      isplitr; · rw [MayWait_zero]; iempintro
      iexact HaO
    unfold waitPost dmaPay
    rw [if_pos rfl]
    iintro ⟨HO, HaO, HW'⟩
    iapply (ih fun h' hh => hmem h' (List.mem_cons_of_mem _ hh))
    isplitr; · iexact HE
    isplitl [Hs]; · iexact Hs
    isplitl [HO]; · iexact HO
    iintro ⟨Hs, HO⟩
    iapply Hk
    isplitr [HO]
    · isplitr [Hs]
      · isplitl [HQ HQ' HaQ]
        · isplitl [HQ HQ']
          · iapply (slotAt_share wq wo c 0 (sl c h)).2
            isplitl [HQ'] <;> iassumption
          iexact HaQ
        isplitl [HW HW']
        · iapply (slotAt_share wq wo c 1 (sl c h)).2
          isplitl [HW'] <;> iassumption
        iexact HaO
      iexact Hs
    iexact HO

/-! ## The body -/

theorem forHops_append (Φ : Fin 8 → sProp 𝕄) (l l' : List (Fin 8)) : forHops Φ (l ++ l') ⊣⊢ iprop(forHops Φ l ∗ forHops Φ l') := by
  induction l with
  | nil => rw [List.nil_append]; unfold forHops; exact emp_sep.symm
  | cons h l ih =>
    rw [List.cons_append, forHops_cons, forHops_cons]
    exact ⟨(sep_mono .rfl ih.1).trans sep_assoc.2, sep_assoc.1.trans (sep_mono .rfl ih.2)⟩

/-- The hops at which a device receives. -/
abbrev recvs : List (Fin 8) := [1, 2, 3, 4, 5, 6, 7]

theorem recvs_split (Φ : Fin 8 → sProp 𝕄) : forHops Φ recvs ⊣⊢ iprop(forHops Φ mids ∗ Φ 7) :=
  (forHops_append Φ mids [7] : forHops Φ recvs ⊣⊢ _).trans ⟨sep_mono (Entails.of_eq rfl) Laws.sep_emp.1, sep_mono (Entails.of_eq rfl) Laws.sep_emp.2⟩

/-- The two rests of what a device holds of the copies at the start: of a hop that receives, and of one that sends. -/
def rcvs (h : Fin 8) : sProp 𝕄 := iprop(rcvR c 0 h ∗ rcvR c 1 h)
def toks (h : Fin 8) : sProp 𝕄 := iprop((tokR c 0 h ∗ tokR c 1 h) ∗ (atPos ER (kCell c (0, 0, sl c h)) 0 ∅ 0 ∗ atPos ER (kCell c (0, 1, sl c h)) 0 ∅ 0))
def dones (h : Fin 8) : sProp 𝕄 := iprop(doneR c 0 h ∗ doneR c 1 h)

/-- The buffers that the copies do not touch, the result and the work areas apart. -/
def held (ks vs : Vec F S2x64x512x64 .bf16) (X : Vec F S2x512x768 .bf16) : sProp 𝕄 :=
  iprop(own c wqM (wq c) ∗ own c woM (wo c) ∗ own c xM X ∗ own c kM ks ∗ own c vM vs)
/-- The work areas, at anything. -/
def areas : sProp 𝕄 := iprop((∃ f, own (F := F) c biasM f) ∗ (∃ f, own (F := F) c vaM f) ∗ (∃ f, own (F := F) c ctxM f))

/-- What the body starts with of the protocol: the two signals' tokens, what the first of them hands over, the credit and the
    place of its own barrier, its own two slots and what each hop uses. -/
def ringPre : sProp 𝕄 :=
  iprop((dutyTok ER (barCell (prv c)) 0 true ∗ dutyTok ER (barCell (nxt c)) 0 false ∗ reached ER (barCell (prv c)) 0 ∗ reached ER (barCell (nxt c)) 0
      ∗ barPay (prv c) ∗ cred (tallyAt (barCell c) () 2) ∗ atPos ER (barCell c) 0 ∅ 0)
    ∗ (slotAny c 0 c ∗ slotAny c 1 c) ∗ forHops (rcvs c) recvs ∗ forHops (toks c) sends)
/-- … and what it leaves: the places after their rounds, and every slot holding its block. -/
def ringPost : sProp 𝕄 :=
  iprop(atPos ER (barCell c) 1 ∅ 0 ∗ (slotAt wq wo c 0 (sl c 7) fullShare ∗ slotAt wq wo c 1 (sl c 7) fullShare) ∗ forHops (dones c) recvs
    ∗ forHops (endPost wq wo c) sends)

/-- A resource of both parts is one of each. -/
theorem forHops_unsep (Φ Ψ : Fin 8 → sProp 𝕄) (hs : List (Fin 8)) :
    forHops (fun h => iprop(Φ h ∗ Ψ h)) hs ⊢ iprop(forHops Φ hs ∗ forHops Ψ hs) := by
  induction hs with
  | nil => unfold forHops; iintro -; isplitr <;> iempintro
  | cons h hs ih =>
    unfold forHops
    iintro ⟨⟨H1, H2⟩, H⟩
    ihave H := ih $$ H
    icases H with ⟨H3, H4⟩
    isplitl [H1 H3]
    · isplitl [H1] <;> iassumption
    isplitl [H2] <;> iassumption

theorem mids_split : forHops (midPost wq wo c) mids ⊢ (iprop(forHops (fun h => iprop(lentR wq wo c 0 h ∗ lentR wq wo c 1 h)) mids ∗ forHops (dones c) mids) : sProp 𝕄) :=
  forHops_unsep (fun h => iprop(lentR wq wo c 0 h ∗ lentR wq wo c 1 h)) (dones c) mids

theorem sends_split : iprop(forHops (toks c) sends ∗ barPay c)
    ⊢ (iprop((sndR c 0 0 ∗ sndR c 1 0) ∗ forHops (fun h => iprop(sndR c 0 h ∗ sndR c 1 h)) mids
        ∗ forHops (fun h => iprop(atPos ER (kCell c (0, 0, sl c h)) 0 ∅ 0 ∗ atPos ER (kCell c (0, 1, sl c h)) 0 ∅ 0)) sends) : sProp 𝕄) := by
  have e : ∀ hs : List (Fin 8), iprop(forHops (toks c) hs ∗ forHops (barOne c) hs) ⊢ (iprop(forHops (fun h => iprop(sndR c 0 h ∗ sndR c 1 h)) hs
      ∗ forHops (fun h => iprop(atPos ER (kCell c (0, 0, sl c h)) 0 ∅ 0 ∗ atPos ER (kCell c (0, 1, sl c h)) 0 ∅ 0)) hs) : sProp 𝕄) := fun hs => by
    induction hs with
    | nil => unfold forHops; exact .rfl
    | cons h hs ih =>
      rw [forHops_cons, forHops_cons, forHops_cons, forHops_cons]
      unfold toks barOne sndR
      iintro ⟨⟨⟨⟨Ht₀, Ht₁⟩, Ha⟩, Hs⟩, ⟨Hq, Ho, Hr₀, Hr₁⟩, Hs'⟩
      ihave H := ih $$ [Hs Hs']
      · isplitl [Hs]
        · unfold toks; iexact Hs
        unfold barOne; iexact Hs'
      unfold sndR
      icases H with ⟨HA, HB⟩
      isplitr [Ha HB]
      · isplitr [HA]
        · isplitl [Ht₀ Hq Hr₀]
          · isplitl [Ht₀]; · iexact Ht₀
            isplitl [Hq] <;> iassumption
          isplitl [Ht₁]; · iexact Ht₁
          isplitl [Ho] <;> iassumption
        iexact HA
      isplitl [Ha] <;> iassumption
  unfold barPay
  refine (e sends).trans ?_
  rw [forHops_cons (fun h => iprop(sndR c 0 h ∗ sndR c 1 h)) 0 mids]
  exact sep_assoc.1

theorem bodyOn_run (ks vs : Vec F S2x64x512x64 .bf16) (X : Vec F S2x512x768 .bf16) (Q : PUnit → sProp 𝕄) :
    iprop(env wq wo Kn ∗ ringPre c ∗ owesE c (O₀ c) ∗ held wq wo c ks vs X ∗ areas c ∗ (∃ f, own c outM f)
        ∗ (ringPost wq wo c ∗ owesE c 0 ∗ held wq wo c ks vs X ∗ areas c ∗ own c outM (glue (bodyOut wq wo c (rowsV X) ks vs)) -∗ Q ⟨⟩))
      ⊢ wpc c (bodyOn c) Q := by
  unfold bodyOn ringPre held areas
  simp only [wpc, wp_bind]
  iintro ⟨#HE, ⟨⟨Ht₁, Ht₂, Hr₁, Hr₂, Hp, Hc, Ha⟩, ⟨HsQ, HsO⟩, Hrcv, Htok⟩, HO, ⟨HWq, HWo, HX, HK, HV⟩, ⟨⟨%fb, HB⟩, ⟨%fv, HA⟩, ⟨%fc, HC⟩⟩, ⟨%fo, HR⟩, Hk⟩
  iapply (meet_run c wq wo Kn)
  isplitr; · iexact HE
  isplitl [HO]; · iexact HO
  isplitl [Ht₁]; · iexact Ht₁
  isplitl [Ht₂]; · iexact Ht₂
  isplitl [Hr₁]; · iexact Hr₁
  isplitl [Hr₂]; · iexact Hr₂
  isplitl [Hp]; · iexact Hp
  isplitl [Hc]; · iexact Hc
  isplitl [Ha]; · iexact Ha
  iintro ⟨HO, Ha, Hp⟩
  ihave Hs := (sends_split c) $$ [Htok Hp]
  · isplitl [Htok] <;> iassumption
  icases Hs with ⟨⟨Hs₀, Hs₁⟩, Hsm, Hpos⟩
  ihave Hrcv := (recvs_split (rcvs c)).1 $$ Hrcv
  icases Hrcv with ⟨Hrm, Hr7⟩
  ihave Hmid := (forHops_sep (rcvs c) (fun h => iprop(sndR c 0 h ∗ sndR c 1 h)) mids) $$ [Hrm Hsm]
  · isplitl [Hrm] <;> iassumption
  iapply (fillMask_run c fb fv)
  isplitl [HB]; · iexact HB
  isplitl [HA]; · iexact HA
  iintro ⟨HB, HA⟩
  iapply (fillOwn_run c wq wo X)
  isplitl [HWq]; · iexact HWq
  isplitl [HWo]; · iexact HWo
  isplitl [HX]; · iexact HX
  isplitl [HsQ]; · iexact HsQ
  isplitl [HsO]; · iexact HsO
  iintro ⟨HWq, HWo, HX, HsQ, HsO⟩
  obtain ⟨p, rfl⟩ := ctxOf_surj fc
  obtain ⟨r, rfl⟩ := glue_surj fo
  iapply (hopFirst_run wq wo Kn c (rowsV X) ks vs mids p r)
  isplitr; · iexact HE
  isplitl [HsQ]; · rw [sl_zero]; iexact HsQ
  isplitl [HsO]; · rw [sl_zero]; iexact HsO
  isplitl [Hs₀]; · iexact Hs₀
  isplitl [Hs₁]; · iexact Hs₁
  isplitl [HO]; · iexact HO
  isplitl [HB HA HK HV HC HR]
  · unfold table desk
    isplitl [HB HA HK HV]
    · isplitl [HK]; · iexact HK
      isplitl [HV]; · iexact HV
      isplitl [HB]; · iexact HB
      iexists onesC
      isplitr; · ipureintro; exact onesC_ok
      iexact HA
    isplitl [HC] <;> iassumption
  iintro ⟨Hl₀, Hl₁, HO, HT⟩
  rw [midList_eq]
  iapply (hopsMid_run wq wo Kn c (rowsV X) ks vs mids (by decide) (by decide) (by decide) _ _)
  isplitr; · iexact HE
  isplitl [Hmid]; · iexact Hmid
  isplitl [HO]; · iexact HO
  isplitl [HT]; · iexact HT
  iintro ⟨Hmid, HO, ⟨%p', HT⟩⟩
  iapply (hopLast_run wq wo Kn c (rowsV X) ks vs p' _)
  isplitr; · iexact HE
  isplitl [Hr7]
  · unfold rcvs; iexact Hr7
  isplitl [HO]; · iexact HO
  isplitl [HT]; · iexact HT
  iintro ⟨Hsl, Hd7, HO, HT⟩
  ihave Hmid := (mids_split wq wo c) $$ Hmid
  icases Hmid with ⟨Hlm, Hdm⟩
  iapply (drain_run wq wo Kn c sends (fun _ h => h))
  isplitr; · iexact HE
  isplitl [Hl₀ Hl₁ Hlm Hpos]
  · iapply (forHops_sep (fun h => iprop(lentR wq wo c 0 h ∗ lentR wq wo c 1 h)) (fun h => iprop(atPos ER (kCell c (0, 0, sl c h)) 0 ∅ 0 ∗ atPos ER (kCell c (0, 1, sl c h)) 0 ∅ 0)) sends)
    isplitr [Hpos]
    · rw [forHops_cons (fun h => iprop(lentR wq wo c 0 h ∗ lentR wq wo c 1 h)) 0 mids]
      isplitr [Hlm]; · isplitl [Hl₀] <;> iassumption
      iexact Hlm
    iexact Hpos
  isplitl [HO]; · iexact HO
  iintro ⟨Hend, HO⟩
  unfold table desk
  icases HT with ⟨⟨HK, HV, HB, ⟨%fa, -, HA⟩⟩, HC, HR⟩
  iapply Hk
  unfold ringPost
  isplitl [Ha Hsl Hdm Hd7 Hend]
  · isplitl [Ha]; · iexact Ha
    isplitl [Hsl]; · iexact Hsl
    isplitr [Hend]
    · iapply (recvs_split (dones c)).2
      isplitl [Hdm]; · iexact Hdm
      unfold dones; iexact Hd7
    iexact Hend
  isplitl [HO]; · iexact HO
  isplitl [HWq HWo HX HK HV]
  · isplitl [HWq]; · iexact HWq
    isplitl [HWo]; · iexact HWo
    isplitl [HX]; · iexact HX
    isplitl [HK] <;> iassumption
  isplitl [HB HA HC]
  · isplitl [HB]; · iexists _; iexact HB
    isplitl [HA]; · iexists _; iexact HA
    iexists _; iexact HC
  iexact HR

end Hops

end Cert.KernelIdeal.Ring

end
-- ==== Proof.Ring.Deal.lean ====
/- What a device starts with and ends with, sorted by hops. -/
module

public import proofs.«01_k».proof.Proof.Ring.Run
public import Idealize.ShloMosaic.Lib.Ring
public import Idealize.ShloMosaic.Lib.Rounds.Family

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F] [Named F]

local notation "𝕄" => MT nD τ sig Unit (Elt F) ℕ UU ℕ

/-! ## Families over the slots as families over the hops -/

/-- All the hops. -/
abbrev hops : List (Fin 8) := [0, 1, 2, 3, 4, 5, 6, 7]

theorem univ_hops (Φ : Fin 8 → sProp 𝕄) : bigSep Finset.univ Φ = forHops Φ hops := by
  have e : (iprop(Φ 7 ∗ emp) : sProp 𝕄) = Φ 7 := BI.equiv_iff.mp ⟨(Laws.sep_emp (P := Φ 7)).1, (Laws.sep_emp (P := Φ 7)).2⟩
  rw [forHops_univ]
  simp only [forHops_cons]
  rw [show forHops Φ [] = (iprop(emp) : sProp 𝕄) from rfl, e]
theorem slots_hops (c : Dev nD) (Φ : Fin 8 → sProp 𝕄) : bigSep Finset.univ Φ = forHops (fun h => Φ (sl c h)) hops := by
  rw [bigSep_univ_equiv (slE c) Φ]; exact univ_hops _
theorem pairs_hops (c : Dev nD) (Φ : Fin 2 × Fin 8 → sProp 𝕄) :
    bigSep Finset.univ Φ = forHops (fun h => iprop(Φ (0, sl c h) ∗ Φ (1, sl c h))) hops := by
  rw [bigSep_univ_prod, bigSep_fin_two]
  exact (bigSep_sep' Finset.univ (fun j => Φ (0, j)) (fun j => Φ (1, j))).symm.trans (slots_hops c fun j => iprop(Φ (0, j) ∗ Φ (1, j)))
theorem keys_hops (c : Dev nD) (Φ : KI → sProp 𝕄) :
    bigSep Finset.univ Φ = iprop(forHops (fun h => iprop(Φ (0, 0, sl c h) ∗ Φ (0, 1, sl c h))) hops ∗ forHops (fun h => iprop(Φ (1, 0, sl c h) ∗ Φ (1, 1, sl c h))) hops) := by
  rw [bigSep_univ_prod, bigSep_fin_two, pairs_hops c, pairs_hops c]; rfl

theorem hops_last (Φ : Fin 8 → sProp 𝕄) : forHops Φ hops ⊣⊢ iprop(forHops Φ sends ∗ Φ 7) :=
  (forHops_append Φ sends [7] : forHops Φ hops ⊣⊢ _).trans ⟨sep_mono (Entails.of_eq rfl) Laws.sep_emp.1, sep_mono (Entails.of_eq rfl) Laws.sep_emp.2⟩

/-- Two families make two others, hop by hop. -/
theorem forHops_remix {Φ Ψ Φ' Ψ' : Fin 8 → sProp 𝕄} {hs : List (Fin 8)} (hm : ∀ h ∈ hs, iprop(Φ h ∗ Ψ h) ⊢ iprop(Φ' h ∗ Ψ' h)) :
    iprop(forHops Φ hs ∗ forHops Ψ hs) ⊢ iprop(forHops Φ' hs ∗ forHops Ψ' hs) :=
  (forHops_sep Φ Ψ hs).trans ((forHops_mono hm).trans (forHops_unsep Φ' Ψ' hs))
/-- Two families make one. -/
theorem forHops_mix {Φ Ψ Ξ : Fin 8 → sProp 𝕄} {hs : List (Fin 8)} (hm : ∀ h ∈ hs, iprop(Φ h ∗ Ψ h) ⊢ Ξ h) :
    iprop(forHops Φ hs ∗ forHops Ψ hs) ⊢ forHops Ξ hs := (forHops_sep Φ Ψ hs).trans (forHops_mono hm)

/-! ## The slots of the two scratch buffers -/

theorem qPt_any (c : Dev nD) (j : Fin 8) (f : Vec F S8x768x512 .bf16) : qPt c j fullShare f ⊢ slotAny (F := F) c 0 j := by
  rw [slotAny_q]; iintro H; iexists f; iexact H
theorem oPt_any (c : Dev nD) (j : Fin 8) (f : Vec F S8x512x768 .bf16) : oPt c j fullShare f ⊢ slotAny (F := F) c 1 j := by
  rw [slotAny_o]; iintro H; iexists f; iexact H
theorem slots_split_q (c : Dev nD) : iprop(∃ f, own (F := F) c qB f) ⊢ forHops (fun h => slotAny (F := F) c 0 (sl c h)) hops := by
  rw [← slots_hops c fun j => slotAny (F := F) c 0 j]
  iintro ⟨%f, H⟩
  ihave H := (Entails.of_eq (Idealize.ShloMosaic.Ring.pointsTo_blocks (ℓ := qB.view.loc (c : Thread nD τ)) qSet qSet_disjoint qSet_cover f)) $$ H
  iapply (show bigSep Finset.univ (fun j => qPt c j fullShare f) ⊢ bigSep Finset.univ (fun j => slotAny (F := F) c 0 j) from bigSep_mono fun j _ => qPt_any c j f)
  iexact H
theorem slots_split_o (c : Dev nD) : iprop(∃ f, own (F := F) c oB f) ⊢ forHops (fun h => slotAny (F := F) c 1 (sl c h)) hops := by
  rw [← slots_hops c fun j => slotAny (F := F) c 1 j]
  iintro ⟨%f, H⟩
  ihave H := (Entails.of_eq (Idealize.ShloMosaic.Ring.pointsTo_blocks (ℓ := oB.view.loc (c : Thread nD τ)) oSet oSet_disjoint oSet_cover f)) $$ H
  iapply (show bigSep Finset.univ (fun j => oPt c j fullShare f) ⊢ bigSep Finset.univ (fun j => slotAny (F := F) c 1 j) from bigSep_mono fun j _ => oPt_any c j f)
  iexact H

theorem slots_join_q (c : Dev nD) (f₀ : Vec F S8x768x512 .bf16) : forHops (fun h => slotAny (F := F) c 0 (sl c h)) hops ⊢ iprop(∃ f, own (F := F) c qB f) := by
  rw [← slots_hops c fun j => slotAny (F := F) c 0 j, bigSep_congr fun j _ => slotAny_q (F := F) c j]
  exact Idealize.ShloMosaic.Ring.pointsTo_blocks_join_exists (ℓ := qB.view.loc (c : Thread nD τ)) qSet qSet_disjoint qSet_cover f₀
theorem slots_join_o (c : Dev nD) (f₀ : Vec F S8x512x768 .bf16) : forHops (fun h => slotAny (F := F) c 1 (sl c h)) hops ⊢ iprop(∃ f, own (F := F) c oB f) := by
  rw [← slots_hops c fun j => slotAny (F := F) c 1 j, bigSep_congr fun j _ => slotAny_o (F := F) c j]
  exact Idealize.ShloMosaic.Ring.pointsTo_blocks_join_exists (ℓ := oB.view.loc (c : Thread nD τ)) oSet oSet_disjoint oSet_cover f₀

/-! ## The start -/

section Deal

variable (wq : Dev nD → Vec F S768x512 .bf16) (wo : Dev nD → Vec F S512x768 .bf16) (Kn : GSem nD τ sig → ℕ) (c : Dev nD)

/-- The place of a copy semaphore at the start, and that it has started. -/
def posR (k : KI) : sProp 𝕄 := iprop(atPos ER (kCell c k) 0 ∅ 0 ∗ reached ER (kCell c k) 0)
/-- What a device holds of its barrier and of its neighbours'. -/
def barPart : sProp 𝕄 :=
  iprop(dutyTok ER (barCell (prv c)) 0 true ∗ dutyTok ER (barCell (nxt c)) 0 false ∗ reached ER (barCell (prv c)) 0 ∗ reached ER (barCell (nxt c)) 0
    ∗ cred (tallyAt (barCell c) () 2) ∗ atPos ER (barCell c) 0 ∅ 0)
/-- The credits of the blocks received after the hop before. -/
def credH (h : Fin 8) : sProp 𝕄 :=
  iprop(cred (tallyAt (kCell c (1, 0, sl c h)) () (NB 0)) ∗ cred (tallyAt (kCell c (1, 1, sl c h)) () (NB 1)))
/-- The tokens of a hop: of its own send semaphores, and of the next device's receive semaphores. -/
def ownTokH (h : Fin 8) : sProp 𝕄 := iprop(dutyTok ER (kCell c (0, 0, sl c h)) 0 false ∗ dutyTok ER (kCell c (0, 1, sl c h)) 0 false)
def nxtTokH (h : Fin 8) : sProp 𝕄 := iprop(dutyTok ER (kCell (nxt c) (1, 0, sl c h)) 0 false ∗ dutyTok ER (kCell (nxt c) (1, 1, sl c h)) 0 false)
/-- The places of the semaphores that no copy of this device uses. -/
def idle : sProp 𝕄 :=
  iprop((atPos ER (kCell c (0, 0, sl c 7)) 0 ∅ 0 ∗ atPos ER (kCell c (0, 1, sl c 7)) 0 ∅ 0)
    ∗ (atPos ER (kCell c (1, 0, sl c 0)) 0 ∅ 0 ∗ atPos ER (kCell c (1, 1, sl c 0)) 0 ∅ 0))

theorem sl_prv : ∀ (c : Dev nD) (h : Fin 8), sl (prv c) h = sl c (h + 1) := by decide

/-- What a device hands to the one before it, by its own hops. -/
def handH (h : Fin 8) : sProp 𝕄 :=
  iprop(slotAny c 0 (sl c h) ∗ slotAny c 1 (sl c h) ∗ reached ER (kCell c (1, 0, sl c h)) 0 ∗ reached ER (kCell c (1, 1, sl c h)) 0)
/-- The hops that receive are those that send, one later. -/
theorem forHops_later (Φ : Fin 8 → sProp 𝕄) : forHops Φ recvs = forHops (fun h => Φ (h + 1)) sends := rfl
theorem hand_bar : forHops (handH (F := F) c) recvs ⊢ barPay (prv c) := by
  rw [forHops_later]
  unfold barPay
  refine forHops_mono fun h _ => Entails.of_eq ?_
  unfold handH barOne
  rw [nxt_prv, sl_prv]

theorem ring_start :
    iprop(barPart c ∗ (forHops (fun h => slotAny (F := F) c 0 (sl c h)) hops ∗ forHops (fun h => slotAny (F := F) c 1 (sl c h)) hops)
      ∗ (forHops (fun h => iprop(posR c (0, 0, sl c h) ∗ posR c (0, 1, sl c h))) hops ∗ forHops (fun h => iprop(posR c (1, 0, sl c h) ∗ posR c (1, 1, sl c h))) hops)
      ∗ (forHops (ownTokH c) hops ∗ forHops (nxtTokH c) hops) ∗ forHops (credH c) recvs)
    ⊢ (iprop(ringPre c ∗ idle c) : sProp 𝕄) := by
  rw [forHops_cons (fun h => slotAny (F := F) c 0 (sl c h)) 0 recvs, forHops_cons (fun h => slotAny (F := F) c 1 (sl c h)) 0 recvs,
    forHops_cons (fun h => iprop(posR (F := F) c (1, 0, sl c h) ∗ posR c (1, 1, sl c h))) 0 recvs]
  iintro ⟨HB, ⟨⟨Hq, Hqs⟩, ⟨Ho, Hos⟩⟩, ⟨HS, ⟨HV0, HVs⟩⟩, ⟨HT, HN⟩, HC⟩
  ihave HS := (hops_last (fun h => iprop(posR (F := F) c (0, 0, sl c h) ∗ posR c (0, 1, sl c h)))).1 $$ HS
  icases HS with ⟨HSs, HS7⟩
  ihave HT := (hops_last (ownTokH (F := F) c)).1 $$ HT
  icases HT with ⟨HT, -⟩
  ihave HN := (hops_last (nxtTokH (F := F) c)).1 $$ HN
  icases HN with ⟨HN, -⟩
  ihave HTN := (forHops_sep (ownTokH (F := F) c) (nxtTokH (F := F) c) sends) $$ [HT HN]
  · isplitl [HT] <;> iassumption
  ihave HTok := (forHops_mix (Φ := fun h => iprop(posR (F := F) c (0, 0, sl c h) ∗ posR c (0, 1, sl c h))) (Ψ := fun h => iprop(ownTokH (F := F) c h ∗ nxtTokH c h))
      (Ξ := toks (F := F) c) (hs := sends) fun h _ => by
    unfold posR ownTokH nxtTokH toks tokR
    iintro ⟨⟨⟨Ha, Hr⟩, ⟨Ha', Hr'⟩⟩, ⟨Ht, Ht'⟩, ⟨Hn, Hn'⟩⟩
    isplitr [Ha Ha']
    · isplitl [Ht Hr Hn]
      · isplitl [Ht]; · iexact Ht
        isplitl [Hr] <;> iassumption
      isplitl [Ht']; · iexact Ht'
      isplitl [Hr'] <;> iassumption
    isplitl [Ha] <;> iassumption) $$ [HSs HTN]
  · isplitl [HSs] <;> iassumption
  ihave HR := (forHops_remix (Φ := fun h => iprop(posR (F := F) c (1, 0, sl c h) ∗ posR c (1, 1, sl c h))) (Ψ := credH (F := F) c)
      (Φ' := rcvs (F := F) c) (Ψ' := fun h => iprop(reached ER (kCell c (1, 0, sl c h)) 0 ∗ reached ER (kCell c (1, 1, sl c h)) 0)) (hs := recvs) fun h _ => by
    unfold posR credH rcvs rcvR
    iintro ⟨⟨⟨Ha, Hr⟩, ⟨Ha', Hr'⟩⟩, ⟨Hc, Hc'⟩⟩
    isplitr [Hr Hr']
    · isplitl [Ha Hc]
      · isplitl [Hc] <;> iassumption
      isplitl [Hc'] <;> iassumption
    isplitl [Hr] <;> iassumption) $$ [HVs HC]
  · isplitl [HVs] <;> iassumption
  icases HR with ⟨HRcv, HRr⟩
  ihave HSl := (forHops_sep (fun h => slotAny (F := F) c 0 (sl c h)) (fun h => slotAny (F := F) c 1 (sl c h)) recvs) $$ [Hqs Hos]
  · isplitl [Hqs] <;> iassumption
  ihave HH := (forHops_mix (Φ := fun h => iprop(slotAny (F := F) c 0 (sl c h) ∗ slotAny (F := F) c 1 (sl c h)))
      (Ψ := fun h => iprop(reached ER (kCell c (1, 0, sl c h)) 0 ∗ reached ER (kCell c (1, 1, sl c h)) 0))
      (Ξ := handH (F := F) c) (hs := recvs) fun h _ => by
    unfold handH
    iintro ⟨⟨Hq, Ho⟩, Hr, Hr'⟩
    isplitl [Hq]; · iexact Hq
    isplitl [Ho]; · iexact Ho
    isplitl [Hr] <;> iassumption) $$ [HSl HRr]
  · isplitl [HSl] <;> iassumption
  ihave HH := (hand_bar (F := F) c) $$ HH
  unfold barPart ringPre idle posR
  icases HB with ⟨H1, H2, H3, H4, H5, H6⟩
  icases HV0 with ⟨⟨Hv0, -⟩, ⟨Hv1, -⟩⟩
  icases HS7 with ⟨⟨Hs0, -⟩, ⟨Hs1, -⟩⟩
  isplitr [Hv0 Hv1 Hs0 Hs1]
  · isplitl [H1 H2 H3 H4 H5 H6 HH]
    · isplitl [H1]; · iexact H1
      isplitl [H2]; · iexact H2
      isplitl [H3]; · iexact H3
      isplitl [H4]; · iexact H4
      isplitl [HH]; · iexact HH
      isplitl [H5] <;> iassumption
    isplitl [Hq Ho]
    · rw [sl_zero]
      isplitl [Hq] <;> iassumption
    isplitl [HRcv]; · iexact HRcv
    iexact HTok
  isplitl [Hs0 Hs1]
  · isplitl [Hs0] <;> iassumption
  isplitl [Hv0] <;> iassumption

/-! ## The end -/

theorem slotAt_any (s : Fin 2) (j : Fin 8) : slotAt wq wo c s j fullShare ⊢ slotAny (F := F) c s j := by
  fin_cases s
  · show slotAt wq wo c 0 j fullShare ⊢ slotAny (F := F) c 0 j
    rw [slotAt_q]; exact qPt_any c j _
  · show slotAt wq wo c 1 j fullShare ⊢ slotAny (F := F) c 1 j
    rw [slotAt_o]; exact oPt_any c j _

theorem end_snd : ∀ (c : Dev nD) (s : Fin 2), ∀ h ∈ sends, endRound c (0, s, sl c h) = 1 := by decide
theorem end_snd7 : ∀ (c : Dev nD) (s : Fin 2), endRound c (0, s, sl c 7) = 0 := by decide
theorem end_rcv : ∀ (c : Dev nD) (s : Fin 2), ∀ h ∈ recvs, endRound c (1, s, sl c h) = 1 := by decide
theorem end_rcv0 : ∀ (c : Dev nD) (s : Fin 2), endRound c (1, s, sl c 0) = 0 := by decide

/-- Every copy semaphore's place at the end. -/
def endPos (k : KI) : sProp 𝕄 := atPos ER (kCell c k) (endRound c k) ∅ 0

theorem ring_end :
    iprop(ringPost wq wo c ∗ idle c)
    ⊢ (iprop(atPos ER (barCell c) 1 ∅ 0 ∗ (∃ f, own (F := F) c qB f) ∗ (∃ f, own (F := F) c oB f) ∗ bigSep Finset.univ fun k : KI => endPos (F := F) c k) : sProp 𝕄) := by
  unfold ringPost idle
  iintro ⟨⟨Hb, ⟨Hq7, Ho7⟩, HD, HE⟩, ⟨⟨Hs0, Hs1⟩, Hv0, Hv1⟩⟩
  ihave Hq7 := (slotAt_any wq wo c 0 (sl c 7)) $$ Hq7
  ihave Ho7 := (slotAt_any wq wo c 1 (sl c 7)) $$ Ho7
  ihave HE := ((forHops_mono (Φ := endPost wq wo c)
      (Ψ := fun h => iprop((slotAny (F := F) c 0 (sl c h) ∗ slotAny c 1 (sl c h)) ∗ (endPos c (0, 0, sl c h) ∗ endPos c (0, 1, sl c h)))) (hs := sends) fun h hh => by
    unfold endPost backR endPos
    rw [end_snd c 0 h hh, end_snd c 1 h hh]
    iintro ⟨⟨Hq, Ha⟩, Ho, Ha'⟩
    isplitl [Hq Ho]
    · isplitl [Hq]
      · iapply (slotAt_any wq wo c 0 (sl c h)); iexact Hq
      iapply (slotAt_any wq wo c 1 (sl c h)); iexact Ho
    isplitl [Ha] <;> iassumption).trans (forHops_unsep _ _ sends)) $$ HE
  icases HE with ⟨HSl, HP⟩
  ihave HSl := (forHops_unsep (fun h => slotAny (F := F) c 0 (sl c h)) (fun h => slotAny (F := F) c 1 (sl c h)) sends) $$ HSl
  icases HSl with ⟨Hqs, Hos⟩
  ihave Hqs := (hops_last (fun h => slotAny (F := F) c 0 (sl c h))).2 $$ [Hqs Hq7]
  · isplitl [Hqs] <;> iassumption
  ihave Hos := (hops_last (fun h => slotAny (F := F) c 1 (sl c h))).2 $$ [Hos Ho7]
  · isplitl [Hos] <;> iassumption
  ihave HD := (forHops_mono (Φ := dones (F := F) c) (Ψ := fun h => iprop(endPos (F := F) c (1, 0, sl c h) ∗ endPos c (1, 1, sl c h))) (hs := recvs) fun h hh => by
    unfold dones doneR endPos
    rw [end_rcv c 0 h hh, end_rcv c 1 h hh]) $$ HD
  isplitl [Hb]; · iexact Hb
  isplitl [Hqs]; · iapply (slots_join_q c (qAll wq)); iexact Hqs
  isplitl [Hos]; · iapply (slots_join_o c (oAll wo)); iexact Hos
  rw [keys_hops c]
  isplitl [HP Hs0 Hs1]
  · iapply (hops_last (fun h => iprop(endPos (F := F) c (0, 0, sl c h) ∗ endPos c (0, 1, sl c h)))).2
    isplitl [HP]; · iexact HP
    unfold endPos
    rw [end_snd7, end_snd7]
    isplitl [Hs0] <;> iassumption
  rw [forHops_cons (fun h => iprop(endPos (F := F) c (1, 0, sl c h) ∗ endPos c (1, 1, sl c h))) 0 recvs]
  isplitl [Hv0 Hv1]
  · unfold endPos
    rw [end_rcv0, end_rcv0]
    isplitl [Hv0] <;> iassumption
  iexact HD

/-! ## Opening and closing the semaphores -/

theorem keys_open :
    iprop(env wq wo Kn ∗ (bigSep Finset.univ fun k : KI => openTok ER (kCell c k)) ∗ (bigSep Finset.univ fun k : KI => semVal (kCell c k) 0))
      ⊢ (|={Set.univ}=> bigSep Finset.univ fun k : KI => posR (F := F) c k : sProp 𝕄) := by
  iintro ⟨#HE, Ho, Hv⟩
  iapply (Rounds.cells_open ER (ringRd wq wo) (Finset.univ : Finset KI) (fun k => kCell c k) (fun k => Kn (kCell c k)) (fun k _ => Set.mem_univ _))
  isplitr [Hv]
  · iapply (bigSep_with_persistent (R := env wq wo Kn) (Φ := fun k : KI => openTok ER (kCell c k)) fun k _ => by
      iintro ⟨#HE, Ho⟩
      isplitr
      · iapply (env_dma wq wo Kn c k); iexact HE
      iexact Ho)
    isplitr; · iexact HE
    iexact Ho
  iexact Hv

theorem keys_close :
    iprop(env wq wo Kn ∗ (bigSep Finset.univ fun k : KI => endPos (F := F) c k))
      ⊢ (|={Set.univ}=> bigSep Finset.univ fun k : KI => semVal (kCell c k) 0 : sProp 𝕄) := by
  refine (bigSep_with_persistent (R := env wq wo Kn) (Φ := fun k : KI => endPos (F := F) c k)
    (Ψ := fun k : KI => iprop(cellInv ER (ringRd wq wo) (Kn (kCell c k)) (kCell c k) ∗ atPos ER (kCell c k) (endRound c k) ∅ 0)) fun k _ => by
      unfold endPos
      iintro ⟨#HE, Ho⟩
      isplitr
      · iapply (env_dma wq wo Kn c k); iexact HE
      iexact Ho).trans ?_
  exact Rounds.cells_close ER (ringRd wq wo) (Finset.univ : Finset KI) (fun k => kCell c k) (fun k => Kn (kCell c k)) (fun k _ => Set.mem_univ _)
    (fun k _ h => h) (fun k => endRound c k) (fun k _ => duties_end wq wo c k)

theorem bar_close :
    iprop(env wq wo Kn ∗ atPos ER (barCell c) 1 ∅ 0) ⊢ (|={Set.univ}=> semVal (barCell c) 0 : sProp 𝕄) := by
  iintro ⟨#HE, Ha⟩
  iapply (Rounds.cell_close ER (ringRd wq wo) (g := barCell c) (κ := Kn (barCell c)) (Set.mem_univ _) (fun h => h) (R := 1) (duties_later wq wo (barCell c)))
  isplitr
  · iapply (env_bar wq wo Kn c); iexact HE
  iexact Ha

end Deal

end Cert.KernelIdeal.Ring

end
-- ==== Proof.Ring.Region.lean ====
/- The kernel's region: the windows' contents, the body's obligation and the record of the region. -/
module

public import proofs.«01_k».proof.Proof.Ring.Deal
public import proofs.«01_k».proof.Proof.Gen.KernelIdeal.Frame
public import Idealize.ShloMosaic.Lib.Pipeline.Frame
public import Idealize.ShloMosaic.Lib.Pipeline.RegionTalk

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Facts₀ Cert.KernelIdeal.Facts

variable {F : FTy → Type} [FloatOps F] [Named F]

local notation "𝕄" => MT nD τ sig Unit (Elt F) ℕ UU ℕ

variable (m : (ℓ : Loc nD τ sig) → Buf (Elt F) ℓ)

/-! ## What the windows hold -/

/-- The only point of the grid. -/
abbrev pt0 : Fin cfg0.N := Gen.t0_0

/-- The operands as the region finds them. -/
def xIn (c : Dev nD) : Vec F S2x512x768 .bf16 := Gen.iblk m c 0 pt0
def wqIn (c : Dev nD) : Vec F S768x512 .bf16 := Gen.iblk m c 1 pt0
def kIn (c : Dev nD) : Vec F S2x64x512x64 .bf16 := Gen.iblk m c 2 pt0
def vIn (c : Dev nD) : Vec F S2x64x512x64 .bf16 := Gen.iblk m c 3 pt0
def woIn (c : Dev nD) : Vec F S512x768 .bf16 := Gen.iblk m c 4 pt0
/-- The result. -/
def outV (c : Dev nD) : Vec F S2x512x768 .f32 := glue (bodyOut (wqIn m) (woIn m) c (rowsV (xIn m c)) (kIn m c) (vIn m c))

/-- The scratch buffers that hold the slots. -/
def slotBufs (c : Dev nD) : sProp 𝕄 := iprop((∃ f, own (F := F) c qB f) ∗ (∃ f, own (F := F) c oB f))
/-- The generator's register. -/
def gen (c : Dev nD) : sProp 𝕄 := iprop(∃ r, prngReg c r)

/-- What the body starts with and ends with beside its windows. -/
def start (c : Dev nD) : sProp 𝕄 := iprop((∃ Kn, env (wqIn m) (woIn m) Kn ∗ ringPre c ∗ idle c) ∗ areas c ∗ gen c)
def finish (c : Dev nD) : sProp 𝕄 :=
  iprop(slotBufs (F := F) c ∗ areas c ∗ gen c ∗ (bigSep Finset.univ fun k : KI => semVal (kCell c k) 0) ∗ semVal (barCell c) 0)

/-- The proof data of the region. -/
def dat0 (c : Dev nD) : Dat τ (Elt F) Unit ℕ UU ℕ cfg0 c where
  A w := Gen.V m c (Pipeline.arrRef spec0 w)
  after w _ := match w with
    | ⟨0, _⟩ => xIn m c
    | ⟨1, _⟩ => wqIn m c
    | ⟨2, _⟩ => kIn m c
    | ⟨3, _⟩ => vIn m c
    | ⟨4, _⟩ => woIn m c
    | ⟨5, _⟩ => outV m c
    | ⟨_ + 6, h⟩ => absurd h (Nat.not_lt.2 (Nat.le_add_left _ _))
  Φ t := if t.val = 0 then start m c else finish c
  q _ := fullShare
  owed t := if t.val = 0 then O₀ c else 0

theorem owed_first (c : Dev nD) (t : Fin (cfg0.N + 1)) (h : t.val = 0) : (dat0 m c).owed t = O₀ c := if_pos h
theorem owed_later (c : Dev nD) (t : Fin (cfg0.N + 1)) (h : t.val ≠ 0) : (dat0 m c).owed t = 0 := if_neg h
theorem inv_first (c : Dev nD) (t : Fin (cfg0.N + 1)) (h : t.val = 0) : (dat0 m c).Φ t = start m c := if_pos h
theorem inv_later (c : Dev nD) (t : Fin (cfg0.N + 1)) (h : t.val ≠ 0) : (dat0 m c).Φ t = finish c := if_neg h

theorem owesAt_make {c : Dev nD} (dat : Dat τ (Elt F) Unit ℕ UU ℕ cfg0 c) (t : Fin (cfg0.N + 1)) (O : CellTallies nD τ sig Unit)
    (h0 : dat.owed t = O) (hr : dat.recorded t = Set.univ) : owesE (F := F) c O ⊢ (dat.owesAt () t : sProp 𝕄) := by
  unfold owesE Dat.owesAt Pipeline.owesWithin Dat.bound; rw [h0, hr]
  iintro ⟨%W, HO⟩; iexists W; isplitr; · ipureintro; exact fun _ _ => Or.inl trivial
  iexact HO
theorem owesAt_take {c : Dev nD} (dat : Dat τ (Elt F) Unit ℕ UU ℕ cfg0 c) (t : Fin (cfg0.N + 1)) (O : CellTallies nD τ sig Unit)
    (h0 : dat.owed t = O) : (dat.owesAt () t : sProp 𝕄) ⊢ owesE (F := F) c O := by
  unfold owesE Dat.owesAt Pipeline.owesWithin; rw [h0]
  iintro ⟨%W, -, HO⟩; iexists W; iexact HO

/-- A staging buffer that is fetched holds its array's block. -/
theorem before_x (c : Dev nD) (d) : (dat0 m c).before 0 pt0 d = xIn m c := by unfold Dat.before; rw [if_pos (Gen.fetch0_0 pt0)]; rfl
theorem before_wq (c : Dev nD) (d) : (dat0 m c).before 1 pt0 d = wqIn m c := by unfold Dat.before; rw [if_pos (Gen.fetch0_1 pt0)]; rfl
theorem before_k (c : Dev nD) (d) : (dat0 m c).before 2 pt0 d = kIn m c := by unfold Dat.before; rw [if_pos (Gen.fetch0_2 pt0)]; rfl
theorem before_v (c : Dev nD) (d) : (dat0 m c).before 3 pt0 d = vIn m c := by unfold Dat.before; rw [if_pos (Gen.fetch0_3 pt0)]; rfl
theorem before_wo (c : Dev nD) (d) : (dat0 m c).before 4 pt0 d = woIn m c := by unfold Dat.before; rw [if_pos (Gen.fetch0_4 pt0)]; rfl

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The kernel from its windows and what else it starts with. -/
def bodyPre (c : Dev nD) : sProp 𝕄 :=
  iprop(start m c ∗ owesE c (O₀ c) ∗ held (wqIn m) (woIn m) c (kIn m c) (vIn m c) (xIn m c) ∗ ∃ f, own c outM f)
def bodyPost (c : Dev nD) : sProp 𝕄 :=
  iprop(finish (F := F) c ∗ owesE c 0 ∗ held (wqIn m) (woIn m) c (kIn m c) (vIn m c) (xIn m c) ∗ own c outM (outV m c))

theorem body_wp (c : Dev nD) (Q : PUnit → sProp 𝕄) : wpc c (bodyOn c) (fun a => iprop(|={Set.univ}=> Q a)) ⊢ wpc c (body (F := F)) Q := by
  have e : wpc c (body (F := F)) Q = iprop(|={Set.univ}=> wpc c (bodyOn c) Q) := by
    unfold body Prog.lift
    simp only [wpc, wp_bind]
    rw [wp_deviceId, wp_ret]
  rw [e]
  iintro H
  imodintro
  iapply (wp_fupd frame (wpE (defs₀ (F := F)) 𝒱₀ (c : Thread nD τ) none) Set.univ)
  iexact H

/-- What the pipeline calls at a point is the body. -/
theorem call_eq (t : Fin cfg0.N) : (defs₀ (F := F)) .tc cfg0.body (cfg0.bodyArgs t (cfg0.slots t)) = body := by
  refine Eq.trans ?_ (body_eq t)
  sl_kernel_rfl

theorem body_run (c : Dev nD) (Q : PUnit → sProp 𝕄) : iprop(bodyPre m c ∗ (bodyPost m c -∗ Q ⟨⟩)) ⊢ wpc c body Q := by
  refine BIBase.Entails.trans ?_ (body_wp c Q)
  unfold bodyPre start
  iintro ⟨⟨⟨⟨%Kn, #HE, HR, HI⟩, HA, HG⟩, HO, HH, HF⟩, Hk⟩
  iapply (bodyOn_run (wqIn m) (woIn m) Kn c (kIn m c) (vIn m c) (xIn m c))
  isplitr; · iexact HE
  isplitl [HR]; · iexact HR
  isplitl [HO]; · iexact HO
  isplitl [HH]; · iexact HH
  isplitl [HA]; · iexact HA
  isplitl [HF]; · iexact HF
  iintro ⟨HR, HO, HH, HA, HF⟩
  ihave HR := (ring_end (wqIn m) (woIn m) c) $$ [HR HI]
  · isplitl [HR] <;> iassumption
  icases HR with ⟨Hb, Hq, Ho, HP⟩
  imod (keys_close (wqIn m) (woIn m) Kn c) $$ [HP] with HP
  · isplitr; · iexact HE
    iexact HP
  imod (bar_close (wqIn m) (woIn m) Kn c) $$ [Hb] with Hb
  · isplitr; · iexact HE
    iexact Hb
  imodintro
  iapply Hk
  unfold bodyPost finish slotBufs outV
  isplitr [HO HH HF]
  · isplitl [Hq Ho]
    · isplitl [Hq] <;> iassumption
    isplitl [HA]; · iexact HA
    isplitl [HG]; · iexact HG
    isplitl [HP] <;> iassumption
  isplitl [HO]; · iexact HO
  isplitl [HH]; · iexact HH
  iexact HF

/-- The region's body obligation. -/
theorem body_obligation (c : Dev nD) : BodyObligation (dat0 m c) defs₀ 𝒱₀ () Set.univ := fun t => by
  obtain rfl := Gen.fin_N0 t
  rw [Gen.bigSep_W0, Gen.bigSep_W0]
  simp only [owns_whole]
  rw [inv_first m c _ (by rfl), inv_later m c (Fin.succ _) (by exact Nat.succ_ne_zero _)]
  rw [call_eq]
  iintro ⟨HS, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  obtain rfl := h0.trans (before_x m c d0)
  obtain rfl := h1.trans (before_wq m c d1)
  obtain rfl := h2.trans (before_k m c d2)
  obtain rfl := h3.trans (before_v m c d3)
  obtain rfl := h4.trans (before_wo m c d4)
  ihave HO := (owesAt_take (dat0 m c) _ (O₀ c) (owed_first m c _ (by rfl))) $$ HO
  iapply (body_run m c)
  isplitl [HS HO H0 H1 H2 H3 H4 H5]
  · unfold bodyPre held
    isplitl [HS]; · iexact HS
    isplitl [HO]; · iexact HO
    isplitr [H5]
    · isplitl [H1]; · iexact H1
      isplitl [H4]; · iexact H4
      isplitl [H0]; · iexact H0
      isplitl [H2] <;> iassumption
    iexists f5; iexact H5
  unfold bodyPost held
  iintro ⟨HS, HO, ⟨H1, H4, H0, H2, H3⟩, H5⟩
  isplitl [HS]; · iexact HS
  isplitl [HO]
  · iapply (owesAt_make (dat0 m c) _ 0 (owed_later m c (Fin.succ _) (by exact Nat.succ_ne_zero _)) rfl); iexact HO
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  iexists _; isplitr; · ipureintro; rfl
  iexact H5

end Cert.KernelIdeal.Ring

end
-- ==== Proof.Ring.Share.lean ====
/- The launch's ghost state, dealt to the devices: the credits, the tokens and the cells. -/
module

public import proofs.«01_k».proof.Proof.Ring.Region
public import Idealize.ShloMosaic.Lib.Pipeline.Launch

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Facts₀ Cert.KernelIdeal.Facts

variable {F : FTy → Type} [FloatOps F] [Named F]

local notation "𝕄" => MT nD τ sig Unit (Elt F) ℕ UU ℕ

variable (m : (ℓ : Loc nD τ sig) → Buf (Elt F) ℓ)

/-! ## What all devices together owe a cell -/

theorem kCell_inj {c d : Dev nD} {k k' : KI} (h : kCell c k = kCell d k') : c = d ∧ k = k' :=
  ⟨congrArg (fun g : GSem nD τ sig => g.1.1) h, osem_inj (congrArg Prod.snd h)⟩
theorem osem_ne_bar : ∀ k : KI, osem k ≠ SemLoc.reg barS := fun k h => by
  have := congrArg code h
  rw [code_osem] at this
  exact absurd this (by decide +revert)

/-- A copy's credit at a receive semaphore. -/
theorem copy_at (d c : Dev nD) (s s' : Fin 2) (h j : Fin 8) :
    tallyAt (kCell (nxt d) (1, s', sl d h)) () (NB s') (kCell c (1, s, j)) () = if c = nxt d ∧ s = s' ∧ sl d j = h then NB s else 0 := by
  rw [tallyAt_apply]
  by_cases e : c = nxt d ∧ s = s' ∧ sl d j = h
  · obtain ⟨rfl, rfl, rfl⟩ := e
    rw [if_pos ⟨by rw [sl_invol], rfl⟩, if_pos ⟨rfl, rfl, rfl⟩]
  · rw [if_neg e, if_neg]
    rintro ⟨hg, -⟩
    obtain ⟨h1, h2⟩ := kCell_inj hg
    have h3 : s = s' := congrArg (fun k : KI => k.2.1) h2
    have h4 : j = sl d h := congrArg (fun k : KI => k.2.2) h2
    exact e ⟨h1, h3, by rw [h4, sl_invol]⟩

theorem owedOf_at (d c : Dev nD) (s : Fin 2) (j : Fin 8) : ∀ hs : List (Fin 8), hs.Nodup →
    owedOf d hs (kCell c (1, s, j)) () = if c = nxt d ∧ sl d j ∈ hs then NB s else 0
  | [], _ => by rw [if_neg (fun h => absurd h.2 List.not_mem_nil)]; rfl
  | h :: hs, hn => by
    rw [show owedOf d (h :: hs) = owedOf d hs + tallyAt (kCell (nxt d) (1, 1, sl d h)) () (NB 1) + tallyAt (kCell (nxt d) (1, 0, sl d h)) () (NB 0) from rfl,
      Pi.add_apply, Finsupp.add_apply, Pi.add_apply, Finsupp.add_apply, copy_at, copy_at, owedOf_at d c s j hs (List.nodup_cons.mp hn).2]
    have h4 : sl d j ∈ h :: hs ↔ sl d j = h ∨ sl d j ∈ hs := List.mem_cons
    have h5 : sl d j = h → sl d j ∉ hs := fun e => e ▸ (List.nodup_cons.mp hn).1
    have hs2 : s = 0 ∨ s = 1 := by revert s; decide
    by_cases h1 : c = nxt d
    · by_cases h2 : sl d j = h
      · have h3 := h5 h2
        rcases hs2 with rfl | rfl <;> simp [h1, h2, h2 ▸ h3]
      · simp [h1, h2]
    · simp [h1]

theorem barCell_inj {c d : Dev nD} (h : barCell c = barCell d) : c = d :=
  congrArg (fun g : GSem nD τ sig => g.1.1) h
theorem owed_rcv (d c : Dev nD) (s : Fin 2) (j : Fin 8) : O₀ d (kCell c (1, s, j)) () = if c = nxt d ∧ sl d j ∈ sends then NB s else 0 := by
  have ne (x : Dev nD) : ¬(kCell c (1, s, j) = barCell x ∧ () = ()) := fun e => osem_ne_bar _ (congrArg Prod.snd e.1)
  unfold O₀ O₁
  rw [Pi.add_apply, Finsupp.add_apply, Pi.add_apply, Finsupp.add_apply, owedOf_at d c s j sends (by decide),
    tallyAt_apply, tallyAt_apply, if_neg (ne (nxt d)), if_neg (ne (prv d)), Nat.add_zero]
theorem owed_bar (d c : Dev nD) : O₀ d (barCell c) () = (if c = nxt d then 1 else 0) + (if c = prv d then 1 else 0) := by
  have h0 : owedOf d sends (barCell c) () = 0 := by
    by_contra h
    obtain ⟨h, -, s, hg⟩ := owedOf_pos (Nat.pos_of_ne_zero h)
    exact osem_ne_bar _ (congrArg Prod.snd hg).symm
  have e (x : Dev nD) : (if barCell c = barCell x ∧ () = () then 1 else 0) = if c = x then 1 else 0 :=
    if_congr ⟨fun h => barCell_inj h.1, fun h => ⟨by rw [h], rfl⟩⟩ rfl rfl
  unfold O₀ O₁
  rw [Pi.add_apply, Finsupp.add_apply, Pi.add_apply, Finsupp.add_apply, h0, tallyAt_apply, tallyAt_apply, Nat.zero_add, e, e]

theorem sum_bar : ∀ c : Dev nD, (∑ d : Dev nD, ((if c = nxt d then 1 else 0) + (if c = prv d then 1 else 0))) = 2 := by decide
theorem sl_sends : ∀ c : Dev nD, ∀ h ∈ recvs, sl (prv c) (sl c h) ∈ sends := by decide
theorem sum_rcv (c : Dev nD) (s : Fin 2) (h : Fin 8) (hh : h ∈ recvs) : (∑ d : Dev nD, O₀ d (kCell c (1, s, sl c h)) ()) = NB s := by
  rw [Finset.sum_congr rfl fun d _ => owed_rcv d c s (sl c h), Finset.sum_eq_single (prv c)]
  · rw [if_pos ⟨(nxt_prv c).symm, sl_sends c h hh⟩]
  · intro d _ hd
    exact if_neg fun e => hd (by rw [e.1, prv_nxt])
  · exact fun h => absurd (Finset.mem_univ _) h

theorem credit_of (c : Dev nD) (sm : SemLoc sig) (n : ℕ) (h : (∑ d : Dev nD, O₀ d ((c : Thread nD τ), sm) ()) = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, h]

def osemE : KI ↪ SemLoc sig := ⟨osem, osem_inj⟩

theorem drop_left (P Q : sProp 𝕄) : iprop(P ∗ Q) ⊢ Q := by
  iintro ⟨-, H⟩
  iexact H

/-- A device's credit at launch: its barrier's, and every block's it receives. -/
theorem creds_deal (c : Dev nD) : (Pipeline.launchCred O₀ c : sProp 𝕄) ⊢ iprop(cred (tallyAt (barCell c) () 2) ∗ forHops (credH c) recvs) := by
  unfold Pipeline.launchCred
  rw [bigSep_univ_at _ (SemLoc.reg barS), credit_of c (.reg barS) 2 ((Finset.sum_congr rfl fun d _ => owed_bar d c).trans (sum_bar c))]
  refine sep_mono_right ?_
  refine (bigSep_subset (t := (Finset.univ : Finset KI).map osemE) (fun sm hsm => ?_)).trans ?_
  · obtain ⟨k, -, rfl⟩ := Finset.mem_map.mp hsm
    exact Finset.mem_erase.mpr ⟨osem_ne_bar k, Finset.mem_univ _⟩
  rw [bigSep_map, keys_hops c]
  refine (drop_left _ _).trans ?_
  rw [show hops = 0 :: recvs from rfl]
  refine (BIBase.Entails.trans (Entails.of_eq (forHops_cons _ 0 recvs)) (drop_left _ _)).trans (forHops_mono fun h hh => ?_)
  unfold credH
  rw [← credit_of c (osem (1, 0, sl c h)) (NB 0) (sum_rcv c 0 h hh), ← credit_of c (osem (1, 1, sl c h)) (NB 1) (sum_rcv c 1 h hh)]
  exact BI.Entails.refl _

/-! ## The tokens -/

/-- A duty of a device's cells: a signal to its barrier or a copy's arrival or departure. -/
abbrev Duty : Type := Bool ⊕ KI
def dutyOf (p : Dev nD × Duty) : GSem nD τ sig × ℕ × Bool := match p.2 with | .inl b => (barCell p.1, 0, b) | .inr k => (kCell p.1 k, 0, false)
theorem dutyOf_inj : Function.Injective dutyOf := by
  rintro ⟨c, x⟩ ⟨d, y⟩ h
  have hc : c = d := by
    cases x <;> cases y <;> exact congrArg (fun t : GSem nD τ sig × ℕ × Bool => t.1.1.1) h
  subst hc
  cases x with
  | inl b => cases y with
    | inl b' => exact congrArg (fun x => (c, Sum.inl x)) (congrArg (fun t : GSem nD τ sig × ℕ × Bool => t.2.2) h)
    | inr k => exact absurd (congrArg (fun t : GSem nD τ sig × ℕ × Bool => t.1.2) h).symm (osem_ne_bar k)
  | inr k => cases y with
    | inl b' => exact absurd (congrArg (fun t : GSem nD τ sig × ℕ × Bool => t.1.2) h) (osem_ne_bar k)
    | inr k' => exact congrArg (fun x => (c, Sum.inr x)) (osem_inj (congrArg (fun t : GSem nD τ sig × ℕ × Bool => t.1.2) h))
def duties : Finset (GSem nD τ sig × ℕ × Bool) := Finset.univ.map ⟨dutyOf, dutyOf_inj⟩

/-- The tokens of a device's own cells: its barrier's two, its send semaphores', its receive semaphores'. -/
def tokB (c : Dev nD) (b : Bool) : sProp 𝕄 := dutyTok ER (barCell c) 0 b
def tokK (c : Dev nD) (d : Fin 2) : sProp 𝕄 := bigSep Finset.univ fun p : Fin 2 × Fin 8 => dutyTok ER (kCell c (d, p)) 0 false

theorem duties_eq : bigSep duties (fun x => (dutyTok ER x.1 x.2.1 x.2.2 : sProp 𝕄))
    = bigSep Finset.univ fun c : Dev nD => iprop((tokB c false ∗ tokB c true) ∗ (tokK c 0 ∗ tokK c 1)) := by
  unfold duties; rw [bigSep_map, bigSep_univ_prod]
  refine bigSep_congr fun c _ => ?_
  rw [BI.bigSep_univ_sum, bigSep_univ_eq_bigSepL [false, true] (by decide) (by decide), bigSepL_cons_cons, bigSepL_singleton,
    bigSep_univ_prod, bigSep_fin_two]
  rfl

def nxtE : Dev nD ≃ Dev nD := ⟨nxt, prv, prv_nxt, nxt_prv⟩

/-- Each device's tokens of the duties that it pays. -/
def payTok (c : Dev nD) : sProp 𝕄 := iprop((tokB (nxt c) false ∗ tokB (prv c) true) ∗ (tokK c 0 ∗ tokK (nxt c) 1))
theorem toks_deal : bigSep duties (fun x => (dutyTok ER x.1 x.2.1 x.2.2 : sProp 𝕄)) ⊢ bigSep Finset.univ fun c : Dev nD => payTok (F := F) c := by
  rw [duties_eq]
  unfold payTok
  rw [bigSep_sep', bigSep_sep', bigSep_sep', bigSep_sep', bigSep_sep', bigSep_sep', bigSep_univ_equiv nxtE (fun c : Dev nD => (tokB c false : sProp 𝕄)),
    bigSep_univ_equiv nxtE.symm (fun c : Dev nD => (tokB c true : sProp 𝕄)), bigSep_univ_equiv nxtE (fun c : Dev nD => (tokK c 1 : sProp 𝕄))]
  exact BI.Entails.refl _

/-! ## The cells and what a device gets at launch -/

theorem cells_disjoint : Disjoint barCells dmaCells := by
  rw [Finset.disjoint_left]
  unfold barCells dmaCells
  rintro g h₁ h₂
  obtain ⟨c, -, rfl⟩ := Finset.mem_image.mp h₁
  obtain ⟨p, -, h⟩ := Finset.mem_image.mp h₂
  exact osem_ne_bar p.2 (congrArg Prod.snd h)

theorem barCells_deal (Φ : GSem nD τ sig → sProp 𝕄) : bigSep barCells Φ = bigSep Finset.univ fun c : Dev nD => Φ (barCell c) := by
  unfold barCells
  exact bigSep_image_of_injOn (f := barCell) (Φ := Φ) (s := Finset.univ) (fun c _ d _ h => barCell_inj h)
theorem dmaCells_deal (Φ : GSem nD τ sig → sProp 𝕄) : bigSep dmaCells Φ = bigSep Finset.univ fun c : Dev nD => bigSep Finset.univ fun k : KI => Φ (kCell c k) := by
  unfold dmaCells
  rw [bigSep_image_of_injOn (fun p _ q _ h => Prod.ext (kCell_inj h).1 (kCell_inj h).2), bigSep_univ_prod]

/-- What every device may consult: all the invariants, and that every barrier has started. -/
def records (Kn : GSem nD τ sig → ℕ) : sProp 𝕄 :=
  iprop((bigSep (barCells ∪ dmaCells) fun g => cellInv ER (ringRd (wqIn m) (woIn m)) (Kn g) g) ∗ bigSep barCells fun g => reached ER g 0)
instance records_persistent (Kn : GSem nD τ sig → ℕ) : BI.Persistent (records m Kn) := by unfold records; infer_instance

theorem bar_reached (c : Dev nD) : (bigSep barCells fun g => (reached ER g 0 : sProp 𝕄)) ⊢ reached ER (barCell c) 0 := by
  refine bigSep_one (Φ := fun g => (reached ER g 0 : sProp 𝕄)) (i := barCell c) ?_
  unfold barCells
  exact Finset.mem_image_of_mem barCell (Finset.mem_univ c)

/-- What is a device's own of it. -/
def lot (c : Dev nD) : sProp 𝕄 := iprop(atPos ER (barCell c) 0 ∅ 0 ∗ (bigSep Finset.univ fun k : KI => openTok ER (kCell c k)) ∗ payTok c)

/-- What a device has of the protocol when the region is entered. -/
def Tk (c : Dev nD) : sProp 𝕄 := iprop((∃ Kn, records m Kn ∗ lot c) ∗ cred (tallyAt (barCell c) () 2) ∗ forHops (credH c) recvs)
/-- … and once its copy semaphores are open. -/
def Xk (c : Dev nD) : sProp 𝕄 :=
  iprop(∃ Kn, env (wqIn m) (woIn m) Kn ∗ barPart c
    ∗ (forHops (fun h => iprop(posR c (0, 0, sl c h) ∗ posR c (0, 1, sl c h))) hops ∗ forHops (fun h => iprop(posR c (1, 0, sl c h) ∗ posR c (1, 1, sl c h))) hops)
    ∗ (forHops (ownTokH c) hops ∗ forHops (nxtTokH c) hops) ∗ forHops (credH c) recvs)
def Yk (c : Dev nD) : sProp 𝕄 := semVal (barCell c) 0

theorem opening (c : Dev nD) : iprop(Tk m c ∗ Pipeline.ownSems0 osem c ∗ levAts L lv) ⊢ (|={Set.univ}=> Xk m c : sProp 𝕄) := by
  rw [show (Pipeline.ownSems0 osem c : sProp 𝕄) = bigSep Finset.univ (fun k : KI => semVal (kCell c k) 0) from rfl]
  unfold Tk Xk records lot payTok
  iintro ⟨⟨⟨%Kn, ⟨#HI, #HR⟩, Ha, Ho, ⟨⟨Hf, Ht⟩, ⟨Hs, Hv⟩⟩⟩, Hc, Hcs⟩, Hz, #HL⟩
  ihave #HE := (show iprop((bigSep (barCells ∪ dmaCells) fun g => cellInv ER (ringRd (wqIn m) (woIn m)) (Kn g) g) ∗ levAts L lv) ⊢ env (F := F) (wqIn m) (woIn m) Kn from
    Entails.of_eq rfl) $$ [HI HL]
  · isplitr; · iexact HI
    iexact HL
  imod (keys_open (wqIn m) (woIn m) Kn c) $$ [Ho Hz] with HP
  · isplitr; · iexact HE
    isplitl [Ho] <;> iassumption
  imodintro
  iexists Kn
  isplitr; · iexact HE
  isplitl [Hf Ht Hc Ha]
  · unfold barPart tokB
    isplitl [Ht]; · iexact Ht
    isplitl [Hf]; · iexact Hf
    isplitr; · iapply (bar_reached (F := F) (prv c)); iexact HR
    isplitr; · iapply (bar_reached (F := F) (nxt c)); iexact HR
    isplitl [Hc] <;> iassumption
  isplitl [HP]
  · iapply (Entails.of_eq (keys_hops c fun k => posR (F := F) c k)) $$ HP
  isplitl [Hs Hv]
  · unfold tokK
    isplitl [Hs]
    · iapply (Entails.of_eq (pairs_hops c fun p => (dutyTok ER (kCell c (0, p)) 0 false : sProp 𝕄))) $$ Hs
    iapply (Entails.of_eq (pairs_hops c fun p => (dutyTok ER (kCell (nxt c) (1, p)) 0 false : sProp 𝕄))) $$ Hv
  iexact Hcs

end Cert.KernelIdeal.Ring

end
-- ==== Proof.Ring.Launch.lean ====
/- The run of the program: the launch, the host operations, the ring and the end. -/
module

public import proofs.«01_k».proof.Proof.Ring.Share
public import Idealize.ShloMosaic.Lib.Pipeline.Regions
public import Idealize.ShloMosaic.Lib.Pipeline.Kit
public import Idealize.ShloMosaic.Harness.Basic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke
open Idealize.ShloMosaic.Pipeline (Dat Cfg BodyObligation cellOf)
open Cert.KernelIdeal.Facts₀ Cert.KernelIdeal.Facts

variable {F : FTy → Type} [FloatOps F] [Named F]

local notation "𝕄" => MT nD τ sig Unit (Elt F) ℕ UU ℕ

variable (m : (ℓ : Loc nD τ sig) → Buf (Elt F) ℓ) (ρ : Dev nD → PrngReg)

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c | 0 => dat0 m

/-! ## The buffers before the host operations, before the region and after it -/

/-- The unscoped buffers, and those that no window stages. -/
abbrev bufs : Finset (DevRef τ sig) := Pipeline.ucRefs τ sig
abbrev arrs : Finset (DevRef τ sig) := Pipeline.arrRefs (τ := τ) spec0

def V₀ (c : Dev nD) : Valuation τ sig (Elt F) := fun b => m (c, b)
def V₁ (c : Dev nD) : Valuation τ sig (Elt F) := StableHlo.after Gen.hostOps0 (V₀ m c)
def V₂ (c : Dev nD) : Valuation τ sig (Elt F) := Function.update (V₁ m c) (Proc.devRef .tc main_v5) (outV m c)

theorem V₂_result (c : Dev nD) : V₂ m c (Proc.devRef .tc main_v5) = outV m c := Function.update_self ..
theorem V₂_other (c : Dev nD) (b : DevRef τ sig) (h : b ≠ Proc.devRef .tc main_v5) : V₂ m c b = V₁ m c b := Function.update_of_ne h ..

theorem arrs_sub : arrs ⊆ bufs := by decide
theorem result_arr : Proc.devRef .tc main_v5 ∈ arrs := by decide

/-- The host operations. -/
abbrev HostS : Type _ := Pipeline.HostSeg (Name := ℕ) (U := UU) (pcfgs (F := F)) defs₀ 𝒱₀ L lv
abbrev RegionS : Type _ := Pipeline.RegionSeg (pcfgs (F := F)) adm (pdats m) () defs₀ 𝒱₀ L lv 0

/-- What a device holds beside its buffers when it starts. -/
def R (c : Dev nD) : sProp 𝕄 := iprop(gen c ∗ Tk m c ∗ owesE c (O₀ c))

def seg0 : HostS (F := F) :=
  Pipeline.HostSeg.ofOps _ _ _ _ _ bufs Gen.hostOps0 (fun op h => Pipeline.sub_ucRefs op ((List.forall_iff_forall_mem.mp Gen.hostOps0_sub) op h))
    (fun op h => (List.forall_iff_forall_mem.mp Gen.hostOps0_fresh) op h) (V₀ m) (R m)

/-! ## The region -/

theorem held_none (c : Dev nD) (W : Valuation τ sig (Elt F)) : (StableHlo.held (c.tc : Thread nD τ) ∅ W : sProp 𝕄) = BI.emp := by
  unfold StableHlo.held; exact BI.bigSep_empty

theorem share_full (c : Dev nD) : ∀ w : Fin cfg0.W, (dat0 m c).share w = fullShare
  | ⟨0, _⟩ => rfl | ⟨1, _⟩ => rfl | ⟨2, _⟩ => rfl | ⟨3, _⟩ => rfl | ⟨4, _⟩ => rfl | ⟨5, _⟩ => rfl
  | ⟨_ + 6, h⟩ => absurd h (Nat.not_lt.2 (Nat.le_add_left _ _))
theorem last_pos : (Fin.last cfg0.N).val ≠ 0 := by
  rw [Fin.val_last, show cfg0.N = 1 from Gen.N_0]; exact Nat.one_ne_zero
theorem lv_staging (c : Dev nD) : ∀ (w : Fin cfg0.W) (s : Fin (cfg0.win w).nbuf), lv ((c : Thread nD τ), SemLoc.dma ((cfg0.win w).sem s)) () = 0 := by
  decide +revert

theorem ring_in (c : Dev nD) : iprop(Pipeline.scopedRest (Pipeline.pin (pcfgs (F := F)) adm 0).spec c ∗ (∃ r, prngReg c r)
      ∗ StableHlo.held (c.tc : Thread nD τ) ∅ (V₁ m c) ∗ Xk m c) ⊢ (pdats m 0 c).Φ 0 := by
  rw [show (pdats m 0 c).Φ 0 = start m c from inv_first m c 0 rfl,
    show (Pipeline.scopedRest (Pipeline.pin (pcfgs (F := F)) adm 0).spec c : sProp 𝕄) = _ from Gen.scopedRest0_eq c]
  unfold start Xk areas gen
  iintro ⟨⟨Hq, Ho, Hb, Hc, Hv⟩, Hg, -, ⟨%Kn, #HE, HB, HP, HT, HC⟩⟩
  isplitl [Hq Ho HB HP HT HC]
  · iexists Kn
    isplitr; · iexact HE
    iapply (ring_start (F := F) c)
    isplitl [HB]; · iexact HB
    isplitl [Hq Ho]
    · isplitl [Hq]
      · iapply (slots_split_q (F := F) c); iexact Hq
      iapply (slots_split_o (F := F) c); iexact Ho
    isplitl [HP]; · iexact HP
    isplitl [HT] <;> iassumption
  isplitl [Hb Hc Hv]
  · isplitl [Hb]; · iexact Hb
    isplitl [Hv]; · iexact Hv
    iexact Hc
  iexact Hg

theorem ring_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  rw [show (pdats m 0 c).Φ (Fin.last _) = finish c from inv_later m c _ last_pos,
    show (Pipeline.scopedRest (Pipeline.pin (pcfgs (F := F)) adm 0).spec c : sProp 𝕄) = _ from Gen.scopedRest0_eq c, held_none,
    show (Pipeline.ownSems0 osem c : sProp 𝕄) = bigSep Finset.univ (fun k : KI => semVal (kCell c k) 0) from rfl]
  unfold finish slotBufs areas gen Yk
  iintro ⟨⟨Hq, Ho⟩, ⟨Hb, Hv, Hc⟩, Hg, Hs, Hz⟩
  isplitl [Hq Ho Hb Hc Hv]
  · isplitl [Hq]; · iexact Hq
    isplitl [Ho]; · iexact Ho
    isplitl [Hb]; · iexact Hb
    isplitl [Hc]; · iexact Hc
    iexact Hv
  isplitl [Hg]; · iexact Hg
  isplitr; · iempintro
  isplitl [Hs] <;> iassumption

/-- The arrays when the region is left. -/
theorem arr_end (c : Dev nD) (w : Fin cfg0.W) : (dat0 m c).arrAt w cfg0.N = V₂ m c (Proc.devRef .tc (Pipeline.arrRef spec0 w)) := by
  match w with
  | ⟨0, _⟩ => exact ((dat0 m c).arrAt_in 0 rfl _).trans (V₂_other m c (Proc.devRef .tc main_v2) (by decide)).symm
  | ⟨1, _⟩ => exact ((dat0 m c).arrAt_in 1 rfl _).trans (V₂_other m c (Proc.devRef .tc main_arg1) (by decide)).symm
  | ⟨2, _⟩ => exact ((dat0 m c).arrAt_in 2 rfl _).trans (V₂_other m c (Proc.devRef .tc main_v3) (by decide)).symm
  | ⟨3, _⟩ => exact ((dat0 m c).arrAt_in 3 rfl _).trans (V₂_other m c (Proc.devRef .tc main_v4) (by decide)).symm
  | ⟨4, _⟩ => exact ((dat0 m c).arrAt_in 4 rfl _).trans (V₂_other m c (Proc.devRef .tc main_arg4) (by decide)).symm
  | ⟨5, _⟩ =>
    refine Eq.trans ?_ (V₂_result m c).symm
    refine (dat0 m c).arrAt_eq_of_after_last 5 pt0 (by decide +kernel) _ fun j => ?_
    blk_simp
    rfl
  | ⟨_ + 6, h⟩ => exact absurd h (Nat.not_lt.2 (Nat.le_add_left _ _))

set_option backward.isDefEq.respectTransparency.types false in
def reg0 : RegionS m :=
  Pipeline.RegionSeg.ofTalk (pcfgs (F := F)) adm (pdats m) () defs₀ 𝒱₀ L lv 0 osem (by decide : Pipeline.OwnSemFacts spec0 osem)
    ∅ (bufs \ arrs) (Finset.empty_subset _) Gen.launch0.toP rfl (fun c => (body_obligation m c).loose)
    (fun _ => 0) O₀ (fun c => (owed_first m c 0 rfl).trans (zero_add _).symm) (fun c => owed_later m c _ last_pos) (fun _ => rfl) (fun c w => share_full m c w)
    (V₁ m) (V₂ m)
    (fun c b hb => V₂_other m c b fun e => (Finset.mem_sdiff.mp (Finset.mem_sdiff.mp hb).1).2 (e ▸ result_arr))
    (Tk m) Yk (Xk m) Yk (opening m) (ring_in m) (ring_out m)
    (fun c => by iintro H; imodintro; iexact H)
    (fun _ => 0)
    ⟨fun c w s => by unfold L; rw [if_pos rfl]; exact Finset.mem_singleton_self _,
      fun c w s => le_of_eq (lv_staging c w s),
      fun c t g i h => by
        have h' : 0 < O₀ c g i := by
          by_cases ht : t.val = 0
          · exact (owed_first m c t ht) ▸ h
          · exact absurd ((owed_later m c t ht) ▸ h) (lt_irrefl _)
        obtain ⟨h1, h2⟩ := O₀_pos h'
        exact ⟨by unfold L; rw [if_pos h1]; exact Finset.mem_singleton_self _, h2⟩⟩
    (fun _ => iprop(emp))
    (fun _ _ => rfl) (fun c w => arr_end m c w)

theorem held_parts (c : Dev nD) (W : Valuation τ sig (Elt F)) :
    (StableHlo.held (c.tc : Thread nD τ) bufs W : sProp 𝕄) = iprop(StableHlo.held (c.tc : Thread nD τ) arrs W ∗ StableHlo.held (c.tc : Thread nD τ) (bufs \ arrs) W) :=
  StableHlo.held_sub_split (c.tc) arrs_sub W

theorem reg0_pre (c : Dev nD) : iprop(StableHlo.held (c : Thread nD τ) bufs (V₁ m c) ∗ R m c) ⊢ (reg0 m).pre c := by
  show _ ⊢ iprop(StableHlo.held (c.tc : Thread nD τ) arrs (V₁ m c) ∗ (∃ r, prngReg c r)
    ∗ (StableHlo.held (c.tc : Thread nD τ) (bufs \ arrs) (V₁ m c) ∗ emp) ∗ Tk m c ∗ ∃ Wd, owes (c : Thread nD τ) (0 + O₀ c) Wd)
  rw [zero_add, held_parts]
  unfold R gen owesE
  iintro ⟨⟨Ha, Hr⟩, Hg, HT, HO⟩
  isplitl [Ha]; · iexact Ha
  isplitl [Hg]; · iexact Hg
  isplitl [Hr]
  · isplitl [Hr]; · iexact Hr
    iempintro
  isplitl [HT] <;> iassumption

theorem reg0_post (c : Dev nD) : (reg0 m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) (bufs \ arrs) (V₂ m c) ∗ emp) ∗ Yk c ∗ ∃ Wd, owes (c : Thread nD τ) (0 : CellTallies nD τ sig Unit) Wd) ⊢ _
  rw [held_parts]
  unfold Yk
  iintro ⟨Ha, -, ⟨Hr, -⟩, Hb, HO⟩
  isplitr [HO]
  · isplitl [Ha Hr]
    · isplitl [Ha] <;> iassumption
    iexact Hb
  iexact HO

/-- The program as a list of segments. -/
def segs : List (Pipeline.Seg (pcfgs (F := F)) adm (pdats m) () defs₀ 𝒱₀ L lv) := [.host (seg0 m), .region (reg0 m)]

/-! ## The launch -/

/-- The launch element: the pipeline's own and the protocol's. -/
def u₀ : UU :=
  (initOf (Pipeline.cells (Pipeline.pin (pcfgs (F := F)) adm) Gen.cellOf_inj) (Pipeline.launchToks (Pipeline.pin (pcfgs (F := F)) adm) Gen.cellOf_inj),
    launchOf barCells dmaCells duties)

/-- The protocol's element stands with one device until it is shared out. -/
def parked (c : Dev nD) : sProp 𝕄 := if c = 0 then BI.own (ER (launchOf barCells dmaCells duties)) else iprop(emp)
theorem parked_all : bigSep Finset.univ (parked (F := F)) = (BI.own (ER (launchOf barCells dmaCells duties)) : sProp 𝕄) := by
  have h (c : Dev nD) (hc : c ∈ Finset.univ.erase (0 : Dev nD)) : parked (F := F) c = (BI.emp : sProp 𝕄) :=
    if_neg (Finset.ne_of_mem_erase hc)
  rw [bigSep_univ_at _ (0 : Dev nD), bigSep_congr h, BI.bigSep_emp_const, show parked (F := F) 0 = _ from if_pos rfl]
  exact BI.equiv_iff.mp sep_emp

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barCell c) 0)

/-- What a device starts with that is not the protocol's. -/
def bundle (c : Dev nD) : sProp 𝕄 :=
  iprop(StableHlo.held (c : Thread nD τ) bufs (V₀ m c) ∗ (cred (tallyAt (barCell c) () 2) ∗ forHops (credH c) recvs) ∗ owesE c (O₀ c) ∗ gen c)

theorem start_of (Kn : GSem nD τ sig → ℕ) (c : Dev nD) : iprop(records m Kn ∗ (lot c ∗ bundle m c)) ⊢ T₀ m c := by
  unfold bundle T₀ R Tk
  iintro ⟨#HR, Hl, Hh, ⟨H1, H2⟩, HO, Hg⟩
  isplitl [Hh]; · iexact Hh
  isplitl [Hg]; · iexact Hg
  isplitr [HO]
  · isplitl [Hl]
    · iexists Kn
      isplitr; · iexact HR
      iexact Hl
    isplitl [H1] <;> iassumption
  iexact HO

theorem bar_sem (c : Dev nD) : (unscopedSems0 c : sProp 𝕄) = semVal (barCell c) 0 := by
  unfold unscopedSems0
  rw [show (Finset.univ.filter fun sm : SemLoc sig => ¬ sm.isScoped .tc) = {SemLoc.reg barS} from by decide, bigSep_singleton]

/-- What the launch gives a device. -/
def given (c : Dev nD) : sProp 𝕄 :=
  iprop(unscopedBufs c (fun b => m ((c : Thread nD τ).loc b)) ∗ unscopedSems0 c
          ∗ owes (c : Thread nD τ) (O₀ c) ∅ ∗ Pipeline.launchCred O₀ c ∗ prngReg c (ρ c) ∗ parked c)

theorem given_parts (c : Dev nD) : given m ρ c ⊢ iprop(bundle m c ∗ (semVal (barCell c) 0 ∗ parked c)) := by
  unfold given
  rw [show unscopedBufs c (fun b => m ((c : Thread nD τ).loc b)) = StableHlo.held (c : Thread nD τ) bufs (V₀ m c) from Pipeline.unscopedBufs_held c (V₀ m c), bar_sem]
  unfold bundle owesE gen
  iintro ⟨Hh, Hs, HO, Hc, Hg, HP⟩
  ihave Hc := (creds_deal (F := F) c) $$ Hc
  isplitr [Hs HP]
  · isplitl [Hh]; · iexact Hh
    isplitl [Hc]; · iexact Hc
    isplitl [HO]; · iexists ∅; iexact HO
    iexists (ρ c); iexact Hg
  isplitl [Hs] <;> iassumption

/-- The launch shared out: the invariants made and every device given its lot. -/
theorem launch : iprop(bigSep Finset.univ (given m ρ) ∗ levAts L lv) ⊢ (|={Set.univ}=> bigSep Finset.univ (T₀ m) : sProp 𝕄) := by
  iintro ⟨H, -⟩
  ihave H := (show bigSep Finset.univ (given m ρ) ⊢ (bigSep Finset.univ fun c : Dev nD => iprop(bundle m c ∗ (semVal (barCell c) 0 ∗ parked c)) : sProp 𝕄) from
    bigSep_mono fun c _ => given_parts m ρ c) $$ H
  ihave H := bigSep_unpair $$ H; icases H with ⟨HB, H⟩
  ihave H := bigSep_unpair $$ H; icases H with ⟨Hv, HG⟩
  ihave Hu := (show bigSep Finset.univ (parked (F := F)) ⊢ BI.own (ER (launchOf barCells dmaCells duties)) from Entails.of_eq parked_all) $$ HG
  imod (Rounds.fund_launch ER (ringRd (wqIn m) (woIn m)) cells_disjoint (fun g _ h => h) duties) $$ [Hv Hu] with ⟨%κ, -, #HI, #HR, Ha, Ho, Ht⟩
  · isplitl [Hv]
    · iapply (Entails.of_eq (barCells_deal fun g => (semVal g 0 : sProp 𝕄)).symm) $$ Hv
    iexact Hu
  imodintro
  iapply (bigSep_with_persistent (R := records m κ) (Φ := fun c => iprop(lot c ∗ bundle m c)) fun c _ => start_of m κ c)
  isplitr
  · unfold records
    isplitr; · iexact HI
    iexact HR
  iapply bigSep_pair
  isplitr [HB]
  · unfold lot
    iapply bigSep_pair
    isplitl [Ha]; · iapply (Entails.of_eq (barCells_deal fun g => (atPos ER g 0 ∅ 0 : sProp 𝕄))) $$ Ha
    iapply bigSep_pair
    isplitl [Ho]; · iapply (Entails.of_eq (dmaCells_deal fun g => (openTok ER g : sProp 𝕄))) $$ Ho
    iapply (toks_deal (F := F)); iexact Ht
  iexact HB

/-! ## The run -/

theorem unscoped_eq : ∀ sm : SemLoc sig, sm.isScoped .tc = false → sm = .reg barS := by decide

set_option backward.isDefEq.respectTransparency.types false in
/-- From any memory and with every semaphore at zero the program runs to its end on the eight devices; each device's unscoped
    buffers are then as the region leaves them, and every semaphore is at zero. -/
theorem run : θ_run defs (onTc (τ := τ) (main (F := F))) ⟨m, fun _ => 0, ρ⟩
    (fun r => (∀ c : Dev nD, ∀ b ∈ bufs, r.2.mem (c, b) = V₂ m c b) ∧ r.2.sem = fun _ => 0) :=
  Pipeline.θ_run_regions_kit_sems (pcfgs (F := F)) adm (pdats m) () Gen.cellOf_inj EP defs₀ 𝒱₀ L lv m ρ main (segs m)
    (fun c Q => by rw [Gen.main_segs adm (pdats m) () 𝒱₀ L lv (seg0 m) (reg0 m) rfl c]; rfl)
    (by simp only [segs, Pipeline.Seg.pipes_host, Pipeline.Seg.pipes_region, Pipeline.Seg.pipes_nil]; decide)
    (O₀ := O₀) (hL := L_of_ne) (G := parked) (u₀ := u₀ (F := F))
    (hu₀ := by
      unfold u₀
      iintro Hu
      ihave H := (ownU_pair _ _) $$ Hu
      icases H with ⟨HP, HX⟩
      imodintro
      isplitl [HP]; · iexact HP
      rw [parked_all]; iexact HX)
    (T₀ := T₀ m) (Tₙ := Tₙ m)
    (hch := ⟨fun c => .rfl, fun c => reg0_pre m c, fun c => reg0_post m c⟩)
    (hinit := launch m ρ)
    (QY := fun c s => (∀ b ∈ bufs, s.mem (c, b) = V₂ m c b) ∧ s.sem (barCell c) = 0)
    (hfin := fun c s' => by
      dsimp only [Tₙ]; unfold StableHlo.held
      iintro ⟨⟨Hh, Hb⟩, HSI⟩
      icombine HSI Hb gives %hb
      ihave H := (persistent_entails_right (SI_pointsTo_bufs_agree (c := c) (F := V₂ m c) (qs := fun _ => fullShare) bufs)) $$ [HSI Hh]
      · isplitl [HSI]; · iexact HSI
        iexact Hh
      icases H with ⟨%hh, HSI, -⟩
      imodintro
      isplitr
      · ipureintro
        exact ⟨hh, by simpa using hb⟩
      iexact HSI)
    (hQ := fun s h hs => ⟨fun c => (h c).1,
      sem_eq_zero hs fun c sm hsm => by
        obtain rfl := unscoped_eq sm hsm
        exact (h c).2⟩)

end Cert.KernelIdeal.Ring

end
-- ==== Proof.Ring.Frames.lean ====
/- What the run leaves, stated at the arguments, the result and the semaphores. -/
module

public import proofs.«01_k».proof.Proof.Ring.Launch

@[expose] public section

noncomputable section

namespace Cert.KernelIdeal.Ring

open Idealize.ShloMosaic Idealize.ShloMosaic.TcCoe Idealize.SL.Sem

variable {F : FTy → Type} [FloatOps F] [Named F]
variable (m : (ℓ : Loc nD τ sig) → Buf (Elt F) ℓ) (ρ : Dev nD → PrngReg)

/-- From any memory and with every semaphore at zero the program ends; on each device the result is `outV`, the arguments are what
    they were, and every semaphore is at zero. -/
theorem run_main : θ_run defs (onTc (τ := τ) (main (F := F))) ⟨m, fun _ => 0, ρ⟩
    (fun r => (∀ c : Dev nD, r.2.mem ((c : Thread nD τ).loc main_v5) = outV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c =>
    ⟨(h.1 c (Proc.devRef .tc main_v5) (by decide)).trans (V₂_result m c),
      (h.1 c (Proc.devRef .tc main_arg0) (by decide)).trans ((V₂_other m c (Proc.devRef .tc main_arg0) (by decide)).trans (Gen.V_main_arg0 m c)),
      (h.1 c (Proc.devRef .tc main_arg1) (by decide)).trans ((V₂_other m c (Proc.devRef .tc main_arg1) (by decide)).trans (Gen.V_main_arg1 m c)),
      (h.1 c (Proc.devRef .tc main_arg2) (by decide)).trans ((V₂_other m c (Proc.devRef .tc main_arg2) (by decide)).trans (Gen.V_main_arg2 m c)),
      (h.1 c (Proc.devRef .tc main_arg3) (by decide)).trans ((V₂_other m c (Proc.devRef .tc main_arg3) (by decide)).trans (Gen.V_main_arg3 m c)),
      (h.1 c (Proc.devRef .tc main_arg4) (by decide)).trans ((V₂_other m c (Proc.devRef .tc main_arg4) (by decide)).trans (Gen.V_main_arg4 m c))⟩, h.2⟩)
    (run m ρ)

/-- The program keeps its arguments and its semaphores, at any float values. -/
def Runs (F : FTy → Type) [FloatOps F] [Named F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem runs : Runs F := fun m g _ => (θ_run defs _ _).mono (fun _ h => ⟨fun c => (h.1 c).2, h.2⟩) (run_main m g)

end Cert.KernelIdeal.Ring

end
-- ==== Proof.Ring.Read.lean ====
/- The kernel's values over the extended reals, read entry by entry. -/
module

public import proofs.«01_k».proof.Proof.Ring.Run
public import Idealize.ShloMosaic.Lib.Pointwise

@[expose] public section

noncomputable section

namespace Cert.KernelIdeal.Ring

open Idealize.SL Idealize.SL.Sem Idealize.ShloMosaic Idealize.ShloMosaic.TcCoe
open Cert.KernelIdeal.Facts₀ Cert.KernelIdeal.Facts

/-- A query's entry: the row of x against the column of the block of Wq. -/
theorem projV_at (x : FVec Ideal S1024x768 .bf16) (w : Vec Ideal S768x512 .bf16) (r : Fin 1024) (o : Fin 512) :
    projV x (shapeCast S1x768x512 (shapeCast S768x512 w shapeCasts_S768x512_S768x512) shapeCasts_S768x512_S1x768x512) (ix2 r o)
      = ∑ k : Fin 768, x (ix2 r k) * w (ix2 k o) := by
  unfold projV
  pointwise

/-- A weight: the exponential of the score plus the bias. -/
theorem weightV_at (q : FVec Ideal S512x64 .bf16) (k : Vec Ideal S1x1x512x64 .bf16) (bias : Vec Ideal S512x512 .f32) (r t : Fin 512) :
    weightV q k bias (ix2 r t) = Ideal.exp ((∑ d : Fin 64, q (ix2 r d) * k (ix4 0 0 t d)) + bias (ix2 r t)) := by
  unfold weightV
  pointwise

/-- A head's result: the weighted values over the weights' sum, which the column of ones collects. -/
theorem normV_at (w : FVec Ideal S512x512 .bf16) (va : Vec Ideal S512x128 .bf16) (r : Fin 512) (d : Fin 64) :
    normV w va (ix3 0 r d) = (∑ t : Fin 512, w (ix2 r t) * va (ix2 t ⟨d.val, by omega⟩))
      * Ideal.div 1 (∑ t : Fin 512, w (ix2 r t) * va (ix2 t 64)) := by
  unfold normV
  pointwise

/-- A share of the result: the heads' results times a block of the output weights. -/
theorem contribV_at (cx : Vec Ideal S1x512x512 .bf16) (wo : Vec Ideal S512x768 .bf16) (r : Fin 512) (o : Fin 768) :
    contribV cx (shapeCast S1x512x768 (shapeCast S512x768 wo shapeCasts_S512x768_S512x768) shapeCasts_S512x768_S1x512x768) (ix2 r o) = ∑ k : Fin 512, cx (ix3 0 r k) * wo (ix2 k o) := by
  unfold contribV
  pointwise

/-- The two batches' rows, one after the other. -/
theorem rowsV_at (x : Vec Ideal S2x512x768 .bf16) (b : Fin 2) (r : Fin 512) (k : Fin 768) :
    rowsV x (ix2 ⟨512 * b.val + r.val, by omega⟩ k) = x (ix3 b r k) := by
  unfold rowsV
  pointwise

/-- The column of ones. -/
theorem onesC_at (t : Fin 512) : onesC (F := Ideal) (ix2 t 64) = 1 := by
  unfold onesC onesV
  pointwise

end Cert.KernelIdeal.Ring

end
-- ==== Proof.Softmax.lean ====
module

public import Idealize.ShloMosaic.PureOps.Ideal.Laws
public import Idealize.ShloMosaic.Lib.IdealHost

/-!
  The arithmetic that the two programs disagree on, over the extended reals.

  The kernel weighs its values with `exp` of the scores as they are and divides once, at the end, by the weights' sum.
  The reference takes the row's largest score away first and divides every weight. With finite scores, of which some
  are masked, both are the same average.
-/

@[expose] public section

noncomputable section

namespace Cert.Softmax

open Idealize.ShloMosaic

/-- Key block `k` is attended from query block `q`. -/
def kept (q k : ℕ) : Bool := q == k || k == 0 || (q + k) % 3 == 0

theorem kept_zero (q : ℕ) : kept q 0 = true := by simp [kept]

/-- The score of a key: the real score where the key is attended, minus infinity elsewhere. -/
def score (p : Bool) (a : ℝ) : EReal := if p then (a : EReal) else ⊥

/-- The real weight behind a score. -/
def weight (p : Bool) (a : ℝ) : ℝ := if p then Real.exp a else 0

theorem weight_nonneg (p : Bool) (a : ℝ) : 0 ≤ weight p a := by
  unfold weight; split
  · exact (Real.exp_pos a).le
  · exact le_rfl

theorem exp_bot : Ideal.exp ⊥ = 0 := rfl
theorem exp_coe (a : ℝ) : Ideal.exp (a : EReal) = (Real.exp a : EReal) := rfl

theorem exp_score (p : Bool) (a : ℝ) : Ideal.exp (score p a) = (weight p a : EReal) := by
  cases p
  · simp [score, weight, exp_bot]
  · simp [score, weight, exp_coe]

/-- Taking a real `μ` away from the score scales the weight by `exp (-μ)`. -/
theorem exp_score_sub (p : Bool) (a μ : ℝ) :
    Ideal.exp (score p a - (μ : EReal)) = ((weight p a * Real.exp (-μ) : ℝ) : EReal) := by
  cases p
  · simp [score, weight, exp_bot]
  · simp only [score, weight, if_true, ← EReal.coe_sub, ← Real.exp_add, ← sub_eq_add_neg, exp_coe]

/-- A finite sum of reals, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A real factor that is not negative goes into a sum of extended reals. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert i s hi ih =>
    rw [Finset.sum_insert hi, Finset.sum_insert hi, ← ih]
    exact EReal.right_distrib_of_nonneg_of_ne_top (by exact_mod_cast hr) (EReal.coe_ne_top r) _ _

theorem div_coe (a b : ℝ) (hb : 0 < b) : Ideal.div (a : EReal) (b : EReal) = ((a / b : ℝ) : EReal) := by
  have h : ((b : ℝ) : EReal) ≠ 0 := by exact_mod_cast hb.ne'
  rw [Ideal.div, if_neg h, ← EReal.coe_inv, ← EReal.coe_mul, div_eq_mul_inv]

variable {n : ℕ}

/-- The largest score of a row with an attended key is a real. -/
theorem max_score (p : Fin n → Bool) (a : Fin n → ℝ) (t₀ : Fin n) (h₀ : p t₀ = true) :
    ∃ μ : ℝ, (Finset.univ : Finset (Fin n)).fold max ⊥ (fun t => score (p t) (a t)) = (μ : EReal) := by
  have hf : (Finset.univ : Finset (Fin n)).fold max ⊥ (fun t => score (p t) (a t))
      = Finset.univ.sup (fun t => score (p t) (a t)) := rfl
  obtain ⟨t, -, ht⟩ := Finset.exists_mem_eq_sup (Finset.univ : Finset (Fin n)) ⟨t₀, Finset.mem_univ _⟩
    (fun t => score (p t) (a t))
  have hle : score (p t₀) (a t₀) ≤ Finset.univ.sup (fun t => score (p t) (a t)) :=
    Finset.le_sup (f := fun t => score (p t) (a t)) (Finset.mem_univ t₀)
  rw [hf]
  rw [ht] at hle ⊢
  cases hp : p t with
  | true => exact ⟨a t, by simp [score]⟩
  | false => simp [score, h₀, hp] at hle

/-- The two ways of averaging agree. -/
theorem average (p : Fin n → Bool) (a : Fin n → ℝ) (v : Fin n → EReal) (t₀ : Fin n) (h₀ : p t₀ = true) :
    (∑ t, Ideal.exp (score (p t) (a t)) * v t) * Ideal.div 1 (∑ t, Ideal.exp (score (p t) (a t)) * 1)
      = ∑ t, v t * Ideal.div
          (Ideal.exp (score (p t) (a t) - Finset.univ.fold max ⊥ (fun u => score (p u) (a u))))
          (∑ x, Ideal.exp (score (p x) (a x) - Finset.univ.fold max ⊥ (fun u => score (p u) (a u)))) := by
  obtain ⟨μ, hμ⟩ := max_score p a t₀ h₀
  have hpos : 0 < ∑ t, weight (p t) (a t) :=
    Finset.sum_pos' (fun t _ => weight_nonneg _ _) ⟨t₀, Finset.mem_univ _, by simp [weight, h₀, Real.exp_pos]⟩
  have he : 0 < Real.exp (-μ) := Real.exp_pos _
  simp only [hμ, exp_score, exp_score_sub, mul_one, ← coe_sum, ← Finset.sum_mul]
  rw [show (1 : EReal) = ((1 : ℝ) : EReal) from rfl, div_coe _ _ hpos, sum_mul_coe _ _ _ (by positivity)]
  refine Finset.sum_congr rfl fun t _ => ?_
  rw [div_coe _ _ (mul_pos hpos he), mul_comm (weight (p t) (a t) : EReal), mul_assoc, ← EReal.coe_mul]
  congr 2
  field_simp

/-- The score with the scale taken inside the projection, as the kernel takes it. -/
theorem score_inside {m d : ℕ} (X : Fin m → ℝ) (W : Fin m → Fin d → ℝ) (K : Fin d → ℝ) (s : ℝ) :
    (∑ e, (∑ i, ((X i : EReal) * (s : EReal)) * (W i e : EReal)) * (K e : EReal))
      = ((∑ e, (∑ i, X i * W i e) * K e) * s : ℝ) := by
  simp only [← EReal.coe_mul, ← coe_sum, Finset.sum_mul]
  congr 1
  refine Finset.sum_congr rfl fun e _ => Finset.sum_congr rfl fun i _ => by ring

/-- The score with the scale after the product, as the reference has it. -/
theorem score_outside {m d : ℕ} (X : Fin m → ℝ) (W : Fin m → Fin d → ℝ) (K : Fin d → ℝ) (s : ℝ) :
    (∑ e, (∑ i, (X i : EReal) * (W i e : EReal)) * (K e : EReal)) * (s : EReal)
      = ((∑ e, (∑ i, X i * W i e) * K e) * s : ℝ) := by
  simp only [← EReal.coe_mul, ← coe_sum]

theorem eighth_bf16 : Ideal.ofBits .bf16 0x3E00#16 = ((1 / 8 : ℝ) : EReal) := by
  simp [Ideal.ofBits, Ideal.ieee, -EReal.coe_mul]; norm_num

theorem eighth_f32 : Ideal.ofBits .f32 0x3E000000#32 = ((1 / 8 : ℝ) : EReal) := by
  simp [Ideal.ofBits, Ideal.ieee, -EReal.coe_mul]; norm_num

theorem bot_f32 : Ideal.ofBits .f32 0xFF800000#32 = ⊥ := by
  simp [Ideal.ofBits, Ideal.ieee]

theorem top_f32 : Ideal.ofBits .f32 0x7F800000#32 = ⊤ := by
  simp [Ideal.ofBits, Ideal.ieee]

/-- An extended real of finite absolute value is a real. -/
theorem coe_of_abs_lt (x : EReal) (h : max x (-x) < ⊤) : ((x.toReal : ℝ) : EReal) = x := by
  refine EReal.coe_toReal (fun e => ?_) (fun e => ?_)
  · simp [e] at h
  · simp [e] at h

end Cert.Softmax
-- ==== Proof.Ring.Bias.lean ====
/- The kernel's bias over the extended reals, read entry by entry. -/
module

public import proofs.«01_k».proof.Proof.Ring.Run
public import proofs.«01_k».proof.Proof.Softmax
public import Idealize.ShloMosaic.Lib.Pointwise

@[expose] public section

noncomputable section

namespace Cert.KernelIdeal.Ring

open Idealize.SL Idealize.SL.Sem Idealize.ShloMosaic Idealize.ShloMosaic.TcCoe
open Cert.KernelIdeal.Facts₀ Cert.KernelIdeal.Facts

/-- A position's block of 64. -/
theorem block_word : ∀ r : Fin 512,
    Scalar.select
      (IntOp.andi
        (IntOp.cmpi .ne
          (IntOp.subi (BitVec.setWidth 32 (IntOp.cmpi .sgt (BitVec.ofNat 32 r.val) 0#32))
            (BitVec.setWidth 32 (IntOp.cmpi .slt (BitVec.ofNat 32 r.val) 0#32)))
          (Scalar.subi (Scalar.extui (Scalar.cmpi .sgt 64#32 0#32)) (Scalar.extui (Scalar.cmpi .slt 64#32 0#32))))
        (IntOp.cmpi .ne (IntOp.remsi .vector (BitVec.ofNat 32 r.val) 64#32) 0#32))
      (IntOp.subi (IntOp.divsi .vector (BitVec.ofNat 32 r.val) 64#32) 1#32)
      (IntOp.divsi .vector (BitVec.ofNat 32 r.val) 64#32) = BitVec.ofNat 32 (r.val / 64) := by
  decide +kernel

/-- The bias: nothing where the key's block is attended from the row's, minus infinity elsewhere. Device `c` has the
    query blocks from `8 * c` on. -/
theorem biasC_at (c : Dev nD) (r t : Fin 512) :
    biasC c (F := Ideal) (ix2 r t) = if Softmax.kept (8 * c.val + r.val / 64) (t.val / 64) then 0 else ⊥ := by
  unfold biasC biasV
  pointwise
  rw [block_word r, block_word t]
  have hr : r.val / 64 < 8 := by omega
  have ht : t.val / 64 < 8 := by omega
  generalize r.val / 64 = q at hr ⊢
  generalize t.val / 64 = k at ht ⊢
  lift q to Fin 8 using hr
  lift k to Fin 8 using ht
  have hw : ∀ (c : Dev nD) (q k : Fin 8),
      IntOp.ori
        (IntOp.ori
          (IntOp.cmpi .eq (IntOp.addi (Scalar.muli (Scalar.remsi (Scalar.divsi c.word 1#32) 8#32) 8#32) (BitVec.ofNat 32 q.val)) (BitVec.ofNat 32 k.val))
          (IntOp.cmpi .eq (BitVec.ofNat 32 k.val) 0#32))
        (IntOp.cmpi .eq
          (IntOp.remsi .vector (IntOp.addi (IntOp.addi (Scalar.muli (Scalar.remsi (Scalar.divsi c.word 1#32) 8#32) 8#32) (BitVec.ofNat 32 q.val)) (BitVec.ofNat 32 k.val)) 3#32)
          0#32)
        = BitVec.ofBool (Softmax.kept (8 * c.val + q.val) k.val) := by
    decide +kernel
  rw [hw]
  cases Softmax.kept (8 * c.val + q.val) k.val <;> rfl

end Cert.KernelIdeal.Ring

end
-- ==== Proof.Ring.Head.lean ====
/- The kernel's heads and its result over the extended reals, read entry by entry. -/
module

public import proofs.«01_k».proof.Proof.Ring.Read
public import proofs.«01_k».proof.Proof.Ring.Bias
public import proofs.«01_k».proof.Proof.Ring.Region

@[expose] public section

noncomputable section

namespace Cert.KernelIdeal.Ring

open Idealize.SL Idealize.SL.Sem Idealize.ShloMosaic Idealize.ShloMosaic.TcCoe
open Cert.KernelIdeal.Facts₀ Cert.KernelIdeal.Facts

/-- A head's queries among all of them. -/
theorem slice_at (v : FVec Ideal S1024x512 .bf16) (b : Fin 2) (n : Fin 8) (r : Fin 512) (e : Fin 64) :
    extractStridedSlice S512x64 ![512 * b.val, 64 * n.val] v (headSlices b n) (ix2 r e)
      = v (ix2 ⟨512 * b.val + r.val, by omega⟩ ⟨64 * n.val + e.val, by omega⟩) := by
  unfold extractStridedSlice
  congr 1
  funext a
  match a with
  | 0 => rfl
  | 1 => rfl

/-- A head's rows of K or V. -/
theorem kvAt_at (f : Vec Ideal S2x64x512x64 .bf16) (b : Fin 2) (j n : Fin 8) (t : Fin 512) (d : Fin 64) :
    kvAt f b j n (ix4 0 0 t d) = f (ix4 b ⟨8 * j.val + n.val, by omega⟩ t d) := by
  unfold kvAt
  congr 1
  funext a
  match a with
  | 0 => rfl
  | 1 => rfl
  | 2 => rfl
  | 3 => rfl

theorem vPartV_at (v : Vec Ideal S1x1x512x64 .bf16) (t : Fin 512) (d : Fin 64) : vPartV v (ix2 t d) = v (ix4 0 0 t d) := by
  unfold vPartV
  pointwise

/-- Left of the column of ones lies V. -/
theorem vaC_at (v : FVec Ideal S512x64 .bf16) (t : Fin 512) (d : Fin 64) :
    vaC v (ix2 t ⟨d.val, by omega⟩) = v (ix2 t d) := by
  unfold vaC
  rw [dif_pos (show ((ix2 t (⟨d.val, by omega⟩ : Fin 128) : S512x128.Idx) 1).val < 64 from d.isLt)]
  congr 1
  funext a
  match a with
  | 0 => rfl
  | 1 => rfl

theorem vaC_ones (v : FVec Ideal S512x64 .bf16) (t : Fin 512) : vaC v (ix2 t 64) = 1 := by
  rw [← onesC_at t]
  exact vaC_ok v (ix2 t 64) (Nat.le_refl 64)

/-- A row's score for a key, as the kernel computes it: the query's product with the key, and the bias. -/
def scoreK (c : Dev nD) (x : FVec Ideal S1024x768 .bf16) (w : Vec Ideal S768x512 .bf16) (ks : Vec Ideal S2x64x512x64 .bf16)
    (j : Fin 8) (b : Fin 2) (n : Fin 8) (r t : Fin 512) : EReal :=
  (∑ e : Fin 64, (∑ m : Fin 768, x (ix2 ⟨512 * b.val + r.val, by omega⟩ m) * w (ix2 m ⟨64 * n.val + e.val, by omega⟩))
    * ks (ix4 b ⟨8 * j.val + n.val, by omega⟩ t e)) + if Softmax.kept (8 * c.val + r.val / 64) (t.val / 64) then 0 else ⊥

variable (wq : Fin 8 → Vec Ideal S768x512 .bf16) (wo : Fin 8 → Vec Ideal S512x768 .bf16)
variable (c : Dev nD) (x : FVec Ideal S1024x768 .bf16) (ks vs : Vec Ideal S2x64x512x64 .bf16)

/-- A head's result. -/
def headK (j : Fin 8) (b : Fin 2) (n : Fin 8) (r : Fin 512) (d : Fin 64) : EReal :=
  (∑ t : Fin 512, Ideal.exp (scoreK c x (wq j) ks j b n r t) * vs (ix4 b ⟨8 * j.val + n.val, by omega⟩ t d))
    * Ideal.div 1 (∑ t : Fin 512, Ideal.exp (scoreK c x (wq j) ks j b n r t) * 1)

theorem headV_at (j : Fin 8) (b : Fin 2) (n : Fin 8) (r : Fin 512) (d : Fin 64) :
    headV c x (wqV wq j) ks vs j b n (ix3 0 r d) = headK wq c x ks vs j b n r d := by
  have hp : ∀ (i : Fin 1024) (o : Fin 512), projV x (wqV wq j) (ix2 i o) = ∑ m : Fin 768, x (ix2 i m) * wq j (ix2 m o) :=
    fun i o => projV_at x (wq j) i o
  unfold headV headK scoreK
  rw [normV_at]
  simp only [weightV_at, slice_at, hp, kvAt_at, vaC_at, vaC_ones, vPartV_at, biasC_at]

/-- A block's share of the result. -/
def shareK (j : Fin 8) (b : Fin 2) (r : Fin 512) (o : Fin 768) : EReal :=
  ∑ k : Fin 512, headK wq c x ks vs j b ⟨k.val / 64, by omega⟩ r ⟨k.val % 64, by omega⟩ * wo j (ix2 k o)

/-- A column of a batch's row lies in one head's piece. -/
theorem rowOf_at (p : Pieces Ideal) (b : Fin 2) (r k : Fin 512) :
    rowOf p b (ix3 0 r k) = p b ⟨k.val / 64, by omega⟩ (ix3 0 r ⟨k.val % 64, by omega⟩) := by
  unfold rowOf
  refine congrArg (p b ⟨k.val / 64, by omega⟩) (funext fun a => ?_)
  match a with
  | 0 => rfl
  | 1 => rfl
  | 2 => rfl

theorem contrib_share (h : Fin 8) (b : Fin 2) (r : Fin 512) (o : Fin 768) :
    contribV (rowOf (hopHeads wq c x ks vs h) b) (woV wo (sl c h)) (ix2 r o) = shareK wq wo c x ks vs (sl c h) b r o := by
  unfold shareK
  refine (contribV_at _ (wo (sl c h)) r o).trans ?_
  refine Finset.sum_congr rfl fun k _ => ?_
  congr 1
  exact (rowOf_at _ b r k).trans (headV_at wq c x ks vs (sl c h) b ⟨k.val / 64, by omega⟩ r ⟨k.val % 64, by omega⟩)

theorem firstV_at (cx : Vec Ideal S1x512x512 .bf16) (w : Vec Ideal S1x512x768 .bf16) (r : Fin 512) (o : Fin 768) :
    firstV cx w (ix3 0 r o) = contribV cx w (ix2 r o) := by
  unfold firstV
  pointwise

theorem nextV_at (old : Vec Ideal S1x512x768 .f32) (cx : Vec Ideal S1x512x512 .bf16) (w : Vec Ideal S1x512x768 .bf16) (r : Fin 512) (o : Fin 768) :
    nextV old cx w (ix3 0 r o) = old (ix3 0 r o) + contribV cx w (ix2 r o) := by
  unfold nextV
  pointwise

/-- Over the hops a device meets every block once. -/
theorem sl_bijective : ∀ c : Dev nD, Function.Bijective (sl c) := by
  intro c
  refine (Fintype.bijective_iff_injective_and_card _).2 ⟨?_, rfl⟩
  revert c
  decide

/-- The result: every block's share. -/
theorem bodyOut_at (b : Fin 2) (r : Fin 512) (o : Fin 768) :
    bodyOut wq wo c x ks vs b (ix3 0 r o) = ∑ j : Fin 8, shareK wq wo c x ks vs j b r o := by
  rw [← (sl_bijective c).sum_comp (fun j => shareK wq wo c x ks vs j b r o), Fin.sum_univ_eight]
  simp only [bodyOut, mids, List.foldl, hopOut, hop0Out, nextV_at, firstV_at, contrib_share]

end Cert.KernelIdeal.Ring

end
-- ==== Proof.Ring.Inputs.lean ====
/- What the kernel's region finds in its operands, over the extended reals, entry by entry. -/
module

public import proofs.«01_k».proof.Proof.Ring.Region
public import proofs.«01_k».proof.Proof.Softmax
public import Idealize.ShloMosaic.Lib.StableHlo.ReadAt
public import Idealize.ShloMosaic.Lib.Pipeline.ValueKit

@[expose] public section

noncomputable section

namespace Cert.KernelIdeal.Ring

open Idealize.SL Idealize.SL.Sem Idealize.ShloMosaic Idealize.ShloMosaic.TcCoe
open Cert.KernelIdeal.Facts₀ Cert.KernelIdeal.Facts

variable (m : (ℓ : Loc nD τ sig) → Buf (Elt Ideal) ℓ) (c : Dev nD)

/-- The arguments as they are launched. -/
abbrev argX : FVec Ideal S2x512x768 .bf16 := m ((c : Thread nD τ).loc main_arg0)
abbrev argWq : FVec Ideal S768x512 .bf16 := m ((c : Thread nD τ).loc main_arg1)
abbrev argK : FVec Ideal S2x512x64x64 .bf16 := m ((c : Thread nD τ).loc main_arg2)
abbrev argV : FVec Ideal S2x512x64x64 .bf16 := m ((c : Thread nD τ).loc main_arg3)
abbrev argWo : FVec Ideal S512x768 .bf16 := m ((c : Thread nD τ).loc main_arg4)

/-- Each operand's window is its whole array. -/
theorem zero_off : ∀ w : Fin cfg0.W, ∀ a, (cfg0.win w).index pt0 a * (cfg0.win w).size a = 0 := by decide +kernel

/-- x, an eighth of it. -/
theorem xIn_at (b : Fin 2) (r : Fin 512) (k : Fin 768) :
    xIn m c (ix3 b r k) = argX m c (ix3 b r k) * ((1 / 8 : ℝ) : EReal) := by
  have e : ((cfg0.win 0).blk pt0).view.emb (ix3 b r k) = ix3 b r k := by
    funext a
    apply Fin.ext
    blk_simp
    exact (congrArg (· + _) (zero_off 0 a)).trans (Nat.zero_add _)
  unfold xIn Gen.iblk
  show Gen.V m c main_v2 (((cfg0.win 0).blk pt0).view.emb (ix3 b r k)) = _
  rw [e, ← Softmax.eighth_bf16]
  unfold Gen.V
  after_reads_at

/-- Wq's block. -/
theorem wqIn_at (k : Fin 768) (o : Fin 512) :
    wqIn m c (ix2 k o) = argWq m c (ix2 k o) := by
  have e : ((cfg0.win 1).blk pt0).view.emb (ix2 k o) = ix2 k o := by
    funext a
    apply Fin.ext
    blk_simp
    exact (congrArg (· + _) (zero_off 1 a)).trans (Nat.zero_add _)
  unfold wqIn Gen.iblk
  show Gen.V m c main_arg1 (((cfg0.win 1).blk pt0).view.emb (ix2 k o)) = _
  rw [e, Gen.V_main_arg1]

/-- Wo's block. -/
theorem woIn_at (k : Fin 512) (o : Fin 768) :
    woIn m c (ix2 k o) = argWo m c (ix2 k o) := by
  have e : ((cfg0.win 4).blk pt0).view.emb (ix2 k o) = ix2 k o := by
    funext a
    apply Fin.ext
    blk_simp
    exact (congrArg (· + _) (zero_off 4 a)).trans (Nat.zero_add _)
  unfold woIn Gen.iblk
  show Gen.V m c main_arg4 (((cfg0.win 4).blk pt0).view.emb (ix2 k o)) = _
  rw [e, Gen.V_main_arg4]

/-- K, its heads before its keys. -/
theorem kIn_at (b : Fin 2) (h : Fin 64) (t : Fin 512) (d : Fin 64) :
    kIn m c (ix4 b h t d) = argK m c (ix4 b t h d) := by
  have e : ((cfg0.win 2).blk pt0).view.emb (ix4 b h t d) = ix4 b h t d := by
    funext a
    apply Fin.ext
    blk_simp
    exact (congrArg (· + _) (zero_off 2 a)).trans (Nat.zero_add _)
  unfold kIn Gen.iblk
  show Gen.V m c main_v3 (((cfg0.win 2).blk pt0).view.emb (ix4 b h t d)) = _
  rw [e]
  unfold Gen.V
  after_reads_at

/-- V, its heads before its keys. -/
theorem vIn_at (b : Fin 2) (h : Fin 64) (t : Fin 512) (d : Fin 64) :
    vIn m c (ix4 b h t d) = argV m c (ix4 b t h d) := by
  have e : ((cfg0.win 3).blk pt0).view.emb (ix4 b h t d) = ix4 b h t d := by
    funext a
    apply Fin.ext
    blk_simp
    exact (congrArg (· + _) (zero_off 3 a)).trans (Nat.zero_add _)
  unfold vIn Gen.iblk
  show Gen.V m c main_v4 (((cfg0.win 3).blk pt0).view.emb (ix4 b h t d)) = _
  rw [e]
  unfold Gen.V
  after_reads_at

end Cert.KernelIdeal.Ring

end
-- ==== Proof.Ref.Stages.lean ====
/- The reference's result, stage by stage: the mask, the masked scores, their exponentials, the weights, the heads' results
   and the last product. -/
module

public import proofs.«01_k».proof.Proof.Gen.ReferenceIdeal.Run
public import Idealize.ShloMosaic.Lib.Tactic
public import Idealize.ShloMosaic.Lib.Pointwise

@[expose] public section

noncomputable section

namespace Cert.ReferenceIdeal.Stages

open Cert.ReferenceIdeal Cert.ReferenceIdeal.Gen Idealize.ShloMosaic Idealize.ShloMosaic.TcCoe Idealize.SL.Sem Idealize.ShloMosaic.StableHlo

/-! ## The mask -/

/-- The rows' blocks of 64: each row's number over 64. -/
def rowW : IVec S4096 32 :=
  have d : IVec S_ 32 := id (constantI S_ 32 64#32)
  have i : IVec S4096 32 := iotaInDim S4096 32 0
  have bc : {w : ℕ} → IVec S_ w → IVec S4096 w := fun v => broadcastInDim S4096 ![] bcast_S_S4096 v
  select (andi (cmpi .ne (signi i) (bc (signi d))) (cmpi .ne (Host.remsi i (bc d)) (bc (constantI S_ 32 0#32))))
    (subi (Host.divsi i (bc d)) (bc (constantI S_ 32 1#32))) (Host.divsi i (bc d))
/-- The keys' blocks of 64. -/
def colW : IVec S512 32 :=
  have d : IVec S_ 32 := id (constantI S_ 32 64#32)
  have i : IVec S512 32 := iotaInDim S512 32 0
  have bc : {w : ℕ} → IVec S_ w → IVec S512 w := fun v => broadcastInDim S512 ![] bcast_S_S512 v
  select (andi (cmpi .ne (signi i) (bc (signi d))) (cmpi .ne (Host.remsi i (bc d)) (bc (constantI S_ 32 0#32))))
    (subi (Host.divsi i (bc d)) (bc (constantI S_ 32 1#32))) (Host.divsi i (bc d))
/-- Both over the whole mask. -/
def rowB : IVec S4096x512 32 := broadcastInDim S4096x512 ![0, 1] bcast_S4096x1_S4096x512_0_1 (broadcastInDim S4096x1 ![0] bcast_S4096_S4096x1_0 rowW)
def colL : IVec S1x512 32 := broadcastInDim S1x512 ![1] bcast_S512_S1x512_1 colW
def colB : IVec S4096x512 32 := broadcastInDim S4096x512 ![0, 1] bcast_S1x512_S4096x512_0_1 colL
/-- The remainder by three, as the reference computes it. -/
def remW (v : IVec S4096x512 32) : IVec S4096x512 32 :=
  have three : IVec S_ 32 := id (constantI S_ 32 3#32)
  have d : IVec S_ 32 := select (cmpi .eq three (constantI S_ 32 0#32)) (constantI S_ 32 1#32) three
  have bc : {w : ℕ} → IVec S_ w → IVec S4096x512 w := fun v => broadcastInDim S4096x512 ![] bcast_S_S4096x512 v
  have r : IVec S4096x512 32 := Host.remsi v (bc d)
  select (andi (cmpi .ne (cmpi .slt r (bc (constantI S_ 32 0#32))) (bc (cmpi .slt d (constantI S_ 32 0#32)))) (cmpi .ne r (bc (constantI S_ 32 0#32))))
    (addi r (bc d)) r
/-- The mask. -/
def keepW : IVec S4096x512 1 :=
  ori (ori (cmpi .eq rowB colB) (broadcastInDim S4096x512 ![0, 1] bcast_S1x512_S4096x512_0_1 (cmpi .eq colL (broadcastInDim S1x512 ![] bcast_S_S1x512 (constantI S_ 32 0#32)))))
    (cmpi .eq (remW (addi rowB colB)) (broadcastInDim S4096x512 ![] bcast_S_S4096x512 (constantI S_ 32 0#32)))
/-- The rows that keep a key. -/
def anyW : IVec S4096 1 := Host.reduce IntOp.ori keepW (constantI S_ 1 0#1) reducesTo_S4096x512_S4096_d1 h_S_

/-! ## The heads -/

variable {F : FTy → Type} [FloatOps F]

/-- The masked scores. -/
def scoreR (x : FVec F S2x4096x768 .bf16) (wq : FVec F S768x4096 .bf16) (k : FVec F S2x512x64x64 .bf16) : FVec F S2x64x4096x512 .f32 :=
  have q : FVec F S2x4096x4096 .bf16 := truncf .bf16 (Host.dotGeneral dot_S2x4096x768_S768x4096_S2x4096x4096_2_0_01_1_n_n none x wq) bitsLt_bf16_f32
  have q4 : FVec F S2x4096x64x64 .bf16 := shapeCast _ q shapeCasts_S2x4096x4096_S2x4096x64x64
  have s : FVec F S2x64x4096x512 .bf16 := truncf .bf16 (Host.dotGeneral dot_S2x4096x64x64_S2x512x64x64_S2x64x4096x512_3_3_1_1_02_02 none q4 k) bitsLt_bf16_f32
  select (broadcastInDim S2x64x4096x512 ![0, 1, 2, 3] bcast_S1x1x4096x512_S2x64x4096x512_0_1_2_3 (broadcastInDim S1x1x4096x512 ![2, 3] bcast_S4096x512_S1x1x4096x512_2_3 keepW))
    (mulf (extf .f32 s bitsLt_bf16_f32) (broadcastInDim S2x64x4096x512 ![] bcast_S_S2x64x4096x512 (constant S_ .f32 0x3E000000#32)))
    (broadcastInDim S2x64x4096x512 ![] bcast_S_S2x64x4096x512 (id (constant S_ .f32 0xFF800000#32)))
/-- The scores' exponentials below their row's maximum. -/
def expR (s : FVec F S2x64x4096x512 .f32) : FVec F S2x64x4096x512 .f32 :=
  Host.exp (subf s (broadcastInDim S2x64x4096x512 ![0, 1, 2, 3] bcast_S2x64x4096x1_S2x64x4096x512_0_1_2_3 (broadcastInDim S2x64x4096x1 ![0, 1, 2] bcast_S2x64x4096_S2x64x4096x1_0_1_2
    (Host.reduce FloatOps.maximumf s (constant S_ .f32 0xFF800000#32) reducesTo_S2x64x4096x512_S2x64x4096_d3 h_S_))))
/-- The weights. -/
def weightR (e : FVec F S2x64x4096x512 .f32) : FVec F S2x64x4096x512 .f32 :=
  have any1 : IVec S1x1x4096x1 1 := broadcastInDim S1x1x4096x1 ![2] bcast_S4096_S1x1x4096x1_2 anyW
  have sum : FVec F S2x64x4096x1 .f32 := select (broadcastInDim S2x64x4096x1 ![0, 1, 2, 3] bcast_S1x1x4096x1_S2x64x4096x1_0_1_2_3 any1)
    (broadcastInDim S2x64x4096x1 ![0, 1, 2] bcast_S2x64x4096_S2x64x4096x1_0_1_2 (Host.reduceAdd e (constant S_ .f32 0x00000000#32) reducesTo_S2x64x4096x512_S2x64x4096_d3 h_S_))
    (broadcastInDim S2x64x4096x1 ![] bcast_S_S2x64x4096x1 (id (constant S_ .f32 0x3F800000#32)))
  select (broadcastInDim S2x64x4096x512 ![0, 1, 2, 3] bcast_S1x1x4096x1_S2x64x4096x512_0_1_2_3 any1)
    (Host.divf e (broadcastInDim S2x64x4096x512 ![0, 1, 2, 3] bcast_S2x64x4096x1_S2x64x4096x512_0_1_2_3 sum))
    (broadcastInDim S2x64x4096x512 ![] bcast_S_S2x64x4096x512 (id (constant S_ .f32 0x00000000#32)))
/-- The result. -/
def outR (x : FVec F S2x4096x768 .bf16) (wq : FVec F S768x4096 .bf16) (k v : FVec F S2x512x64x64 .bf16) (wo : FVec F S4096x768 .bf16) : FVec F S2x4096x768 .f32 :=
  have h : FVec F S2x64x64x4096 .f32 := Host.dotGeneral dot_S2x512x64x64_S2x64x4096x512_S2x64x64x4096_1_3_3_2_02_01 none v (weightR (expR (scoreR x wq k)))
  Host.dotGeneral dot_S2x4096x4096_S4096x768_S2x4096x768_2_0_01_1_n_n none
    (shapeCast _ (transpose S2x4096x64x64 [0, 3, 1, 2] h transposes_S2x64x64x4096_S2x4096x64x64_0_3_1_2) shapeCasts_S2x4096x64x64_S2x4096x4096) wo

variable (m : (ℓ : Loc nD τ sig) → Buf (Elt F) ℓ)

set_option maxRecDepth 20000 in
/-- The reference's result is the last stage. -/
theorem res_eq (c : Dev nD) : Value.res_main_v47 m c = outR (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  sl_kernel_rfl

end Cert.ReferenceIdeal.Stages

end
-- ==== Proof.Ref.Mask.lean ====
/- The reference's mask, read entry by entry. -/
module

public import proofs.«01_k».proof.Proof.Ref.Stages
public import proofs.«01_k».proof.Proof.Softmax
public import Idealize.ShloMosaic.Lib.Routing.OpsOrder

@[expose] public section

noncomputable section

namespace Cert.ReferenceIdeal.Stages

open Cert.ReferenceIdeal Cert.ReferenceIdeal.Gen Idealize.ShloMosaic Cert.Softmax

/-- A row's block of 64. -/
theorem rowW_at : ∀ r : Fin 4096, rowW (ix1 r) = BitVec.ofNat 32 (r.val / 64) := by
  decide +kernel

/-- A key's block of 64. -/
theorem colW_at : ∀ t : Fin 512, colW (ix1 t) = BitVec.ofNat 32 (t.val / 64) := by
  decide +kernel

theorem keepW_at (r : Fin 4096) (t : Fin 512) :
    keepW (ix2 r t) = BitVec.ofBool (kept (r.val / 64) (t.val / 64)) := by
  unfold keepW remW rowB colB colL
  pointwise
  rw [rowW_at, colW_at]
  have hr : r.val / 64 < 64 := by omega
  have ht : t.val / 64 < 8 := by omega
  generalize r.val / 64 = q at hr ⊢
  generalize t.val / 64 = k at ht ⊢
  lift q to Fin 64 using hr
  lift k to Fin 8 using ht
  revert q k
  decide +kernel

/-- Every row keeps a key. -/
theorem anyW_at (r : Fin 4096) : anyW (ix1 r) = 1#1 := by
  unfold anyW
  pointwise
  exact (Routing.fold_ori _ _).2 ⟨0, Finset.mem_univ _, by rw [keepW_at]; simp only [Fin.val_zero, Nat.zero_div, kept_zero]; rfl⟩

end Cert.ReferenceIdeal.Stages

end
-- ==== Proof.Ref.Read.lean ====
/- The reference's stages over the extended reals, read entry by entry. -/
module

public import proofs.«01_k».proof.Proof.Ref.Mask

@[expose] public section

noncomputable section

namespace Cert.ReferenceIdeal.Stages

open Cert.ReferenceIdeal Cert.ReferenceIdeal.Gen Idealize.ShloMosaic Cert.Softmax

/-- A score: the product of the row's query and the key over eight where the key is attended, minus infinity elsewhere. -/
theorem scoreR_at (x : FVec Ideal S2x4096x768 .bf16) (wq : FVec Ideal S768x4096 .bf16) (k : FVec Ideal S2x512x64x64 .bf16) (b : Fin 2) (h : Fin 64) (r : Fin 4096) (t : Fin 512) :
    scoreR x wq k (ix4 b h r t) = if kept (r.val / 64) (t.val / 64) then
      (∑ d : Fin 64, (∑ m : Fin 768, x (ix3 b r m) * wq (ix2 m ⟨h.val * 64 + d.val, by omega⟩)) * k (ix4 b t h d)) * ((1 / 8 : ℝ) : EReal) else ⊥ := by
  unfold scoreR
  pointwise
  rw [keepW_at, ← eighth_f32, ← bot_f32]
  cases kept (r.val / 64) (t.val / 64) <;> rfl

/-- An exponential: the score's, less the row's largest. -/
theorem expR_at (s : FVec Ideal S2x64x4096x512 .f32) (b : Fin 2) (h : Fin 64) (r : Fin 4096) (t : Fin 512) :
    expR s (ix4 b h r t) = Ideal.exp (s (ix4 b h r t) - Finset.univ.fold max ⊥ (fun u : Fin 512 => s (ix4 b h r u))) := by
  unfold expR
  pointwise
  rw [← bot_f32]

/-- A weight: the exponential over the row's sum of them. -/
theorem weightR_at (e : FVec Ideal S2x64x4096x512 .f32) (b : Fin 2) (h : Fin 64) (r : Fin 4096) (t : Fin 512) :
    weightR e (ix4 b h r t) = Ideal.div (e (ix4 b h r t)) (∑ u : Fin 512, e (ix4 b h r u)) := by
  unfold weightR
  pointwise
  rw [anyW_at]
  rfl

/-- A result: the heads' results, side by side, times the output weights. -/
theorem outR_at (x : FVec Ideal S2x4096x768 .bf16) (wq : FVec Ideal S768x4096 .bf16) (k v : FVec Ideal S2x512x64x64 .bf16) (wo : FVec Ideal S4096x768 .bf16) (b : Fin 2) (r : Fin 4096) (o : Fin 768) :
    outR x wq k v wo (ix3 b r o) = ∑ c : Fin 4096, (∑ t : Fin 512, v (ix4 b t ⟨c.val / 64, by omega⟩ ⟨c.val % 64, by omega⟩)
      * weightR (expR (scoreR x wq k)) (ix4 b ⟨c.val / 64, by omega⟩ r t)) * wo (ix2 c o) := by
  unfold outR
  pointwise

end Cert.ReferenceIdeal.Stages

end
-- ==== Proof.Agree.lean ====
/- The kernel's result is the reference's, entry by entry. -/
module

public import proofs.«01_k».proof.Proof.Ring.Head
public import proofs.«01_k».proof.Proof.Ring.Inputs
public import proofs.«01_k».proof.Proof.Ref.Read

@[expose] public section

noncomputable section

namespace Cert.Agree

open Idealize.ShloMosaic Idealize.ShloMosaic.TcCoe Cert.KernelIdeal Cert.KernelIdeal.Ring Cert.Softmax
open Cert.ReferenceIdeal.Stages (scoreR expR weightR outR scoreR_at expR_at weightR_at outR_at)

variable (m : (ℓ : Loc nD τ sig) → Buf (Elt Ideal) ℓ)
variable (X : FVec Ideal ReferenceIdeal.S2x4096x768 .bf16) (Wq : FVec Ideal ReferenceIdeal.S768x4096 .bf16)
variable (K V : FVec Ideal ReferenceIdeal.S2x512x64x64 .bf16) (Wo : FVec Ideal ReferenceIdeal.S4096x768 .bf16)

/-- Every device holds its block of x's rows, of Wq's columns and of Wo's rows, and all of K and V; x, Wq and K are
    finite. -/
structure Launched : Prop where
  x : ∀ (c : Fin 8) (b : Fin 2) (r : Fin 512) (k : Fin 768), argX m c (ix3 b r k) = X (ix3 b ⟨512 * c.val + r.val, by omega⟩ k)
  wq : ∀ (c : Fin 8) (k : Fin 768) (o : Fin 512), argWq m c (ix2 k o) = Wq (ix2 k ⟨512 * c.val + o.val, by omega⟩)
  k : ∀ c : Fin 8, argK m c = K
  v : ∀ c : Fin 8, argV m c = V
  wo : ∀ (c : Fin 8) (k : Fin 512) (o : Fin 768), argWo m c (ix2 k o) = Wo (ix2 ⟨512 * c.val + k.val, by omega⟩ o)
  finX : ∀ c i, ((argX m c i).toReal : EReal) = argX m c i
  finWq : ∀ c i, ((argWq m c i).toReal : EReal) = argWq m c i
  finK : ∀ c i, ((argK m c i).toReal : EReal) = argK m c i

variable {m X Wq K V Wo} (L : Launched m X Wq K V Wo)

/-- A row's real score for a key, mask aside. -/
def realScore (m : (ℓ : Loc nD τ sig) → Buf (Elt Ideal) ℓ) (c j : Fin 8) (b : Fin 2) (n : Fin 8) (r t : Fin 512) : ℝ :=
  (∑ e : Fin 64, (∑ i : Fin 768, (argX m c (ix3 b r i)).toReal * (argWq m j (ix2 i ⟨64 * n.val + e.val, by omega⟩)).toReal)
    * (argK m c (ix4 b t ⟨8 * j.val + n.val, by omega⟩ e)).toReal) * (1 / 8)

include L

/-- The kernel's score. -/
theorem scoreK_eq (c j : Fin 8) (b : Fin 2) (n : Fin 8) (r t : Fin 512) :
    scoreK c (rowsV (xIn m c)) (wqIn m j) (kIn m c) j b n r t
      = score (kept (8 * c.val + r.val / 64) (t.val / 64)) (realScore m c j b n r t) := by
  have h := score_inside (fun i : Fin 768 => (argX m c (ix3 b r i)).toReal)
    (fun i (e : Fin 64) => (argWq m j (ix2 i ⟨64 * n.val + e.val, by omega⟩)).toReal)
    (fun e => (argK m c (ix4 b t ⟨8 * j.val + n.val, by omega⟩ e)).toReal) (1 / 8)
  simp only [L.finX, L.finWq, L.finK] at h
  unfold scoreK
  simp only [rowsV_at, xIn_at, wqIn_at, kIn_at]
  refine (congrArg (· + _) h).trans ?_
  show ((realScore m c j b n r t : ℝ) : EReal) + _ = _
  cases kept (8 * c.val + r.val / 64) (t.val / 64)
  · exact EReal.add_bot _
  · exact add_zero _

/-- The reference's score is the same. -/
theorem scoreR_eq (c j : Fin 8) (b : Fin 2) (n : Fin 8) (r t : Fin 512) :
    scoreR X Wq K (ix4 b ⟨8 * j.val + n.val, by omega⟩ ⟨512 * c.val + r.val, by omega⟩ t)
      = score (kept (8 * c.val + r.val / 64) (t.val / 64)) (realScore m c j b n r t) := by
  have h := (score_outside (fun i : Fin 768 => (argX m c (ix3 b r i)).toReal)
    (fun i (e : Fin 64) => (argWq m j (ix2 i ⟨64 * n.val + e.val, by omega⟩)).toReal)
    (fun e => (argK m c (ix4 b t ⟨8 * j.val + n.val, by omega⟩ e)).toReal) (1 / 8)).trans
    (show _ = ((realScore m c j b n r t : ℝ) : EReal) from rfl)
  simp only [L.finX, L.finWq, L.finK] at h
  simp only [L.x, L.wq, L.k] at h
  have hr : (512 * c.val + r.val) / 64 = 8 * c.val + r.val / 64 := by omega
  have he : ∀ e : Fin 64, (⟨(8 * j.val + n.val) * 64 + e.val, by omega⟩ : Fin 4096) = ⟨512 * j.val + (64 * n.val + e.val), by omega⟩ :=
    fun e => Fin.ext (by show (8 * j.val + n.val) * 64 + e.val = 512 * j.val + (64 * n.val + e.val); omega)
  rw [scoreR_at]
  simp only [hr, he]
  unfold score
  split
  · exact h
  · rfl

/-- A head's results agree. -/
theorem head_eq (c j : Fin 8) (b : Fin 2) (n : Fin 8) (r : Fin 512) (d : Fin 64) :
    headK (wqIn m) c (rowsV (xIn m c)) (kIn m c) (vIn m c) j b n r d
      = ∑ t : Fin 512, V (ix4 b t ⟨8 * j.val + n.val, by omega⟩ d)
        * weightR (expR (scoreR X Wq K)) (ix4 b ⟨8 * j.val + n.val, by omega⟩ ⟨512 * c.val + r.val, by omega⟩ t) := by
  unfold headK
  simp only [scoreK_eq L, vIn_at, weightR_at, expR_at, scoreR_eq L, L.v]
  exact average (fun t : Fin 512 => kept (8 * c.val + r.val / 64) (t.val / 64)) (fun t => realScore m c j b n r t)
    (fun t => V (ix4 b t ⟨8 * j.val + n.val, by omega⟩ d)) 0 (kept_zero _)

omit L in
/-- A sum over all columns, block by block. -/
theorem sum_blocks (f : Fin 4096 → EReal) :
    ∑ i, f i = ∑ j : Fin 8, ∑ k : Fin 512, f ⟨512 * j.val + k.val, by omega⟩ := by
  rw [← Fintype.sum_prod_type' (f := fun (j : Fin 8) (k : Fin 512) => f ⟨512 * j.val + k.val, by omega⟩)]
  exact (Fintype.sum_equiv (finProdFinEquiv (m := 8) (n := 512)) _ _ fun p =>
    congrArg f (Fin.ext (show 512 * p.1.val + p.2.val = p.2.val + 512 * p.1.val by omega))).symm

/-- A device's result is its rows of the reference's. -/
theorem out_eq (c : Fin 8) (b : Fin 2) (r : Fin 512) (o : Fin 768) :
    outV m c (ix3 b r o) = outR X Wq K V Wo (ix3 b ⟨512 * c.val + r.val, by omega⟩ o) := by
  have hy : outY (ix3 b r o) = ix3 0 r o := by
    funext a
    match a with
    | 0 => rfl
    | 1 => rfl
    | 2 => rfl
  have hb : outV m c (ix3 b r o) = bodyOut (wqIn m) (woIn m) c (rowsV (xIn m c)) (kIn m c) (vIn m c) b (ix3 0 r o) :=
    congrArg (bodyOut (wqIn m) (woIn m) c (rowsV (xIn m c)) (kIn m c) (vIn m c) b) hy
  rw [hb, bodyOut_at, outR_at, sum_blocks]
  refine Finset.sum_congr rfl fun j _ => Finset.sum_congr rfl fun k _ => ?_
  have h1 : (⟨(512 * j.val + k.val) / 64, by omega⟩ : Fin 64) = ⟨8 * j.val + k.val / 64, by omega⟩ :=
    Fin.ext (by show (512 * j.val + k.val) / 64 = 8 * j.val + k.val / 64; omega)
  have h2 : (⟨(512 * j.val + k.val) % 64, by omega⟩ : Fin 64) = ⟨k.val % 64, by omega⟩ :=
    Fin.ext (by show (512 * j.val + k.val) % 64 = k.val % 64; omega)
  simp only [h1, h2]
  rw [head_eq L c j b ⟨k.val / 64, by omega⟩ r ⟨k.val % 64, by omega⟩, woIn_at, L.wo]

end Cert.Agree

end
-- ==== Proof.Value.lean ====
/- The value claim: from finite arguments laid over the devices by blocks, both programs end, and each device's result is its
   block of the reference's. -/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Ring.Frames
public import proofs.«01_k».proof.Proof.Agree

@[expose] public section

noncomputable section

namespace Cert.Agree

open Idealize.ShloMosaic Idealize.SL.Sem Idealize.ShloMosaic.TcCoe

/-- What the two readings of the precondition ask of the shapes. -/
theorem preFactsK : Cert.Pre_finite_KernelIdeal.Facts := ⟨by decide, by decide, by decide, by decide⟩
theorem preFactsR : Cert.Pre_finite_ReferenceIdeal.Facts := ⟨by decide, by decide, by decide, by decide⟩

/-- Where a comparison of an absolute value with infinity says yes, the value is a real. -/
theorem real_of_cmp (x : EReal) (h : Ideal.cmp .olt (max x (-x)) (Ideal.ofBits .f32 0x7F800000#32) = 1#1) :
    ((x.toReal : ℝ) : EReal) = x :=
  Softmax.coe_of_abs_lt x (Softmax.top_f32 ▸ ((Ideal.cmp_olt_eq_one _ _).1 h))

/-! ## Blocks -/

variable {α : Type}

/-- A block of x's rows, -/
theorem block_rows3 (c : Fin 8) (v : (⟨3, ![2, 4096, 768]⟩ : Shape).Idx → α) (b : Fin 2) (r : Fin 512) (k : Fin 768) :
    Layout.block ⟨3, ![2, 512, 768]⟩ ⟨3, ![2, 4096, 768]⟩ 1 8 c v (by decide) (ix3 b r k) = v (ix3 b ⟨512 * c.val + r.val, by omega⟩ k) :=
  congrArg v (funext fun a => Fin.ext (by
    match a with
    | 0 => rfl
    | 1 => show c.val * 512 + r.val = 512 * c.val + r.val; omega
    | 2 => rfl))

/-- of Wq's columns, -/
theorem block_cols (c : Fin 8) (v : (⟨2, ![768, 4096]⟩ : Shape).Idx → α) (k : Fin 768) (o : Fin 512) :
    Layout.block ⟨2, ![768, 512]⟩ ⟨2, ![768, 4096]⟩ 1 8 c v (by decide) (ix2 k o) = v (ix2 k ⟨512 * c.val + o.val, by omega⟩) :=
  congrArg v (funext fun a => Fin.ext (by
    match a with
    | 0 => rfl
    | 1 => show c.val * 512 + o.val = 512 * c.val + o.val; omega))

/-- of Wo's rows. -/
theorem block_rows (c : Fin 8) (v : (⟨2, ![4096, 768]⟩ : Shape).Idx → α) (k : Fin 512) (o : Fin 768) :
    Layout.block ⟨2, ![512, 768]⟩ ⟨2, ![4096, 768]⟩ 0 8 c v (by decide) (ix2 k o) = v (ix2 ⟨512 * c.val + k.val, by omega⟩ o) :=
  congrArg v (funext fun a => Fin.ext (by
    match a with
    | 0 => show c.val * 512 + k.val = 512 * c.val + k.val; omega
    | 1 => rfl))

/-! ## The claim -/

/-- A device's result is its block of the reference's. -/
theorem out_block {m : (ℓ : Loc Cert.KernelIdeal.nD Cert.KernelIdeal.τ Cert.KernelIdeal.sig) → Buf (Elt Ideal) ℓ}
    {X : FVec Ideal ReferenceIdeal.S2x4096x768 .bf16} {Wq : FVec Ideal ReferenceIdeal.S768x4096 .bf16}
    {K V : FVec Ideal ReferenceIdeal.S2x512x64x64 .bf16} {Wo : FVec Ideal ReferenceIdeal.S4096x768 .bf16}
    (L : Launched m X Wq K V Wo) (c : Fin 8) :
    KernelIdeal.Ring.outV m c = Layout.block ⟨3, ![2, 512, 768]⟩ ⟨3, ![2, 4096, 768]⟩ 1 8 c (ReferenceIdeal.Stages.outR X Wq K V Wo) (by decide) := by
  funext i
  rw [eq_ix3 i]
  exact (out_eq L c (i 0) (i 1) (i 2)).trans (block_rows3 c _ (i 0) (i 1) (i 2)).symm

/-- The value claim. -/
theorem value : Cert.algebraic_KernelIdeal_ReferenceIdeal_pre_finite_KernelIdeal (hKernelIdeal := Cert.KernelIdeal.Gen.facts)
    (hReferenceIdeal := Cert.ReferenceIdeal.Gen.facts) (hPre_finite_KernelIdeal := preFactsK) := by
  intro m g m' g' hpre hin
  have L : Launched m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c b r k => (congrFun (hin c).1 (ix3 b r k)).trans (block_rows3 c _ b r k)
      wq := fun c k o => (congrFun (hin c).2.1 (ix2 k o)).trans (block_cols c _ k o)
      k := fun c => (hin c).2.2.1
      v := fun c => (hin c).2.2.2.1
      wo := fun c k o => (congrFun (hin c).2.2.2.2 (ix2 k o)).trans (block_rows c _ k o)
      finX := fun c i => real_of_cmp _ (congrFun (hpre c).1 i)
      finWq := fun c i => real_of_cmp _ (congrFun (hpre c).2.1 i)
      finK := fun c i => real_of_cmp _ (congrFun (hpre c).2.2 i) }
  refine ⟨Cert.ReferenceIdeal.Value.res_main_v47 m' 0, ?_, ?_⟩
  · refine (θ_run Cert.KernelIdeal.defs _ _).mono (fun r h c => ?_) (Cert.KernelIdeal.Ring.run_main (F := Ideal) m g)
    refine ⟨(h.1 c).1.trans ?_, (h.1 c).2⟩
    rw [Cert.ReferenceIdeal.Stages.res_eq]
    exact out_block L c
  · exact (θ_run Cert.ReferenceIdeal.defs _ _).mono (fun r h => h 0) (Cert.ReferenceIdeal.Value.run (F := Ideal) m' g')

end Cert.Agree

end
-- ==== Proof.lean ====
/- The claim, from the run of the ring on eight devices and the run of the reference. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import proofs.«01_k».proof.Proof.Gen.ReferenceIdeal
public import proofs.«01_k».proof.Proof.Gen.ReferenceIdeal.Run
public import proofs.«01_k».proof.Proof.Ring.Frames
public import proofs.«01_k».proof.Proof.Value
public import Idealize.ShloMosaic.Adequacy
public import Idealize.ShloMosaic.Init
public import Idealize.ShloMosaic.Lib.Tactic

@[expose] public section

noncomputable section

namespace Cert.Proof

open Idealize.ShloMosaic Idealize.SL.Sem

/-- At words the named constant is the word itself: with that reading the ideal program is the kernel. -/
@[reducible] def wordNamed : Named Bits := ⟨fun _ _ {φ} b => Scalar.ofBits φ b⟩

/-- The kernel's frame is that of the ideal program read at words. -/
theorem frame_kernel_eq : Cert.quiescent_Kernel (hKernel := Cert.Kernel.Gen.facts) = @Cert.KernelIdeal.Ring.Runs Bits _ wordNamed := by
  sl_kernel_rfl

/-- The kernel ends, keeps its arguments and leaves every semaphore at zero. -/
theorem frame_kernel : Cert.quiescent_Kernel (hKernel := Cert.Kernel.Gen.facts) :=
  frame_kernel_eq ▸ @Cert.KernelIdeal.Ring.runs Bits _ wordNamed

/-- So does the ideal program. -/
theorem frame_ideal : Cert.quiescent_KernelIdeal (hKernelIdeal := Cert.KernelIdeal.Gen.facts) := fun m g _ =>
  Cert.KernelIdeal.Ring.runs (F := Ideal) m g trivial

/-- The reference has no semaphores. -/
theorem no_sem {β : Type} (s s' : GSem Cert.ReferenceIdeal.nD Cert.ReferenceIdeal.τ Cert.ReferenceIdeal.sig → β) : s = s' := by
  funext g
  rcases g with ⟨_, i | i⟩ <;> exact i.elim0

/-- The reference ends and keeps its arguments. -/
theorem frame_reference : Cert.quiescent_ReferenceIdeal (hReferenceIdeal := Cert.ReferenceIdeal.Gen.facts) := fun m g _ =>
  (θ_run Cert.ReferenceIdeal.defs _ _).mono (fun _ h => ⟨fun c => (h c).2, no_sem _ _⟩) (Cert.ReferenceIdeal.Value.run (F := Ideal) m g)

theorem preserved : Cert.preserves_Kernel_KernelIdeal :=
  IdealRules.named_const.statement Cert.KernelIdeal.κ "mask" .f32 0xCE6E6B28#32 ⊥ rfl

theorem claim : Cert.Claim := ⟨Cert.Kernel.Gen.facts, Cert.KernelIdeal.Gen.facts, Cert.ReferenceIdeal.Gen.facts,
  Cert.Agree.preFactsK, Cert.Agree.preFactsR,
  frame_kernel, frame_ideal, fun m g _ => frame_ideal m g trivial, frame_reference, fun m g _ => frame_reference m g trivial,
  preserved, Cert.Agree.value⟩

end Cert.Proof

end
